-- ==== Defs.lean ====
def Pre_Kernel [hPre_pi_is_0123_Kernel : Cert.Pre_pi_is_0123_Kernel.Facts] (m : (ℓ : Loc Cert.Kernel.nD Cert.Kernel.τ Cert.Kernel.sig) → Buf (Elt Bits) ℓ) : Prop :=
  ∀ c : Dev Cert.Kernel.nD,
    (Cert.Pre_pi_is_0123_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0132_Kernel [hPre_pi_is_0132_Kernel : Cert.Pre_pi_is_0132_Kernel.Facts] (m : (ℓ : Loc Cert.Kernel.nD Cert.Kernel.τ Cert.Kernel.sig) → Buf (Elt Bits) ℓ) : Prop :=
  ∀ c : Dev Cert.Kernel.nD,
    (Cert.Pre_pi_is_0132_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0213_Kernel [hPre_pi_is_0213_Kernel : Cert.Pre_pi_is_0213_Kernel.Facts] (m : (ℓ : Loc Cert.Kernel.nD Cert.Kernel.τ Cert.Kernel.sig) → Buf (Elt Bits) ℓ) : Prop :=
  ∀ c : Dev Cert.Kernel.nD,
    (Cert.Pre_pi_is_0213_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0231_Kernel [hPre_pi_is_0231_Kernel : Cert.Pre_pi_is_0231_Kernel.Facts] (m : (ℓ : Loc Cert.Kernel.nD Cert.Kernel.τ Cert.Kernel.sig) → Buf (Elt Bits) ℓ) : Prop :=
  ∀ c : Dev Cert.Kernel.nD,
    (Cert.Pre_pi_is_0231_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0312_Kernel [hPre_pi_is_0312_Kernel : Cert.Pre_pi_is_0312_Kernel.Facts] (m : (ℓ : Loc Cert.Kernel.nD Cert.Kernel.τ Cert.Kernel.sig) → Buf (Elt Bits) ℓ) : Prop :=
  ∀ c : Dev Cert.Kernel.nD,
    (Cert.Pre_pi_is_0312_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_0321_Kernel [hPre_pi_is_0321_Kernel : Cert.Pre_pi_is_0321_Kernel.Facts] (m : (ℓ : Loc Cert.Kernel.nD Cert.Kernel.τ Cert.Kernel.sig) → Buf (Elt Bits) ℓ) : Prop :=
  ∀ c : Dev Cert.Kernel.nD,
    (Cert.Pre_pi_is_0321_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1023_Kernel [hPre_pi_is_1023_Kernel : Cert.Pre_pi_is_1023_Kernel.Facts] (m : (ℓ : Loc Cert.Kernel.nD Cert.Kernel.τ Cert.Kernel.sig) → Buf (Elt Bits) ℓ) : Prop :=
  ∀ c : Dev Cert.Kernel.nD,
    (Cert.Pre_pi_is_1023_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1032_Kernel [hPre_pi_is_1032_Kernel : Cert.Pre_pi_is_1032_Kernel.Facts] (m : (ℓ : Loc Cert.Kernel.nD Cert.Kernel.τ Cert.Kernel.sig) → Buf (Elt Bits) ℓ) : Prop :=
  ∀ c : Dev Cert.Kernel.nD,
    (Cert.Pre_pi_is_1032_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1203_Kernel [hPre_pi_is_1203_Kernel : Cert.Pre_pi_is_1203_Kernel.Facts] (m : (ℓ : Loc Cert.Kernel.nD Cert.Kernel.τ Cert.Kernel.sig) → Buf (Elt Bits) ℓ) : Prop :=
  ∀ c : Dev Cert.Kernel.nD,
    (Cert.Pre_pi_is_1203_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1230_Kernel [hPre_pi_is_1230_Kernel : Cert.Pre_pi_is_1230_Kernel.Facts] (m : (ℓ : Loc Cert.Kernel.nD Cert.Kernel.τ Cert.Kernel.sig) → Buf (Elt Bits) ℓ) : Prop :=
  ∀ c : Dev Cert.Kernel.nD,
    (Cert.Pre_pi_is_1230_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1302_Kernel [hPre_pi_is_1302_Kernel : Cert.Pre_pi_is_1302_Kernel.Facts] (m : (ℓ : Loc Cert.Kernel.nD Cert.Kernel.τ Cert.Kernel.sig) → Buf (Elt Bits) ℓ) : Prop :=
  ∀ c : Dev Cert.Kernel.nD,
    (Cert.Pre_pi_is_1302_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_1320_Kernel [hPre_pi_is_1320_Kernel : Cert.Pre_pi_is_1320_Kernel.Facts] (m : (ℓ : Loc Cert.Kernel.nD Cert.Kernel.τ Cert.Kernel.sig) → Buf (Elt Bits) ℓ) : Prop :=
  ∀ c : Dev Cert.Kernel.nD,
    (Cert.Pre_pi_is_1320_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2013_Kernel [hPre_pi_is_2013_Kernel : Cert.Pre_pi_is_2013_Kernel.Facts] (m : (ℓ : Loc Cert.Kernel.nD Cert.Kernel.τ Cert.Kernel.sig) → Buf (Elt Bits) ℓ) : Prop :=
  ∀ c : Dev Cert.Kernel.nD,
    (Cert.Pre_pi_is_2013_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2031_Kernel [hPre_pi_is_2031_Kernel : Cert.Pre_pi_is_2031_Kernel.Facts] (m : (ℓ : Loc Cert.Kernel.nD Cert.Kernel.τ Cert.Kernel.sig) → Buf (Elt Bits) ℓ) : Prop :=
  ∀ c : Dev Cert.Kernel.nD,
    (Cert.Pre_pi_is_2031_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2103_Kernel [hPre_pi_is_2103_Kernel : Cert.Pre_pi_is_2103_Kernel.Facts] (m : (ℓ : Loc Cert.Kernel.nD Cert.Kernel.τ Cert.Kernel.sig) → Buf (Elt Bits) ℓ) : Prop :=
  ∀ c : Dev Cert.Kernel.nD,
    (Cert.Pre_pi_is_2103_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2130_Kernel [hPre_pi_is_2130_Kernel : Cert.Pre_pi_is_2130_Kernel.Facts] (m : (ℓ : Loc Cert.Kernel.nD Cert.Kernel.τ Cert.Kernel.sig) → Buf (Elt Bits) ℓ) : Prop :=
  ∀ c : Dev Cert.Kernel.nD,
    (Cert.Pre_pi_is_2130_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2301_Kernel [hPre_pi_is_2301_Kernel : Cert.Pre_pi_is_2301_Kernel.Facts] (m : (ℓ : Loc Cert.Kernel.nD Cert.Kernel.τ Cert.Kernel.sig) → Buf (Elt Bits) ℓ) : Prop :=
  ∀ c : Dev Cert.Kernel.nD,
    (Cert.Pre_pi_is_2301_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_2310_Kernel [hPre_pi_is_2310_Kernel : Cert.Pre_pi_is_2310_Kernel.Facts] (m : (ℓ : Loc Cert.Kernel.nD Cert.Kernel.τ Cert.Kernel.sig) → Buf (Elt Bits) ℓ) : Prop :=
  ∀ c : Dev Cert.Kernel.nD,
    (Cert.Pre_pi_is_2310_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3012_Kernel [hPre_pi_is_3012_Kernel : Cert.Pre_pi_is_3012_Kernel.Facts] (m : (ℓ : Loc Cert.Kernel.nD Cert.Kernel.τ Cert.Kernel.sig) → Buf (Elt Bits) ℓ) : Prop :=
  ∀ c : Dev Cert.Kernel.nD,
    (Cert.Pre_pi_is_3012_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3021_Kernel [hPre_pi_is_3021_Kernel : Cert.Pre_pi_is_3021_Kernel.Facts] (m : (ℓ : Loc Cert.Kernel.nD Cert.Kernel.τ Cert.Kernel.sig) → Buf (Elt Bits) ℓ) : Prop :=
  ∀ c : Dev Cert.Kernel.nD,
    (Cert.Pre_pi_is_3021_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3102_Kernel [hPre_pi_is_3102_Kernel : Cert.Pre_pi_is_3102_Kernel.Facts] (m : (ℓ : Loc Cert.Kernel.nD Cert.Kernel.τ Cert.Kernel.sig) → Buf (Elt Bits) ℓ) : Prop :=
  ∀ c : Dev Cert.Kernel.nD,
    (Cert.Pre_pi_is_3102_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3120_Kernel [hPre_pi_is_3120_Kernel : Cert.Pre_pi_is_3120_Kernel.Facts] (m : (ℓ : Loc Cert.Kernel.nD Cert.Kernel.τ Cert.Kernel.sig) → Buf (Elt Bits) ℓ) : Prop :=
  ∀ c : Dev Cert.Kernel.nD,
    (Cert.Pre_pi_is_3120_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3201_Kernel [hPre_pi_is_3201_Kernel : Cert.Pre_pi_is_3201_Kernel.Facts] (m : (ℓ : Loc Cert.Kernel.nD Cert.Kernel.τ Cert.Kernel.sig) → Buf (Elt Bits) ℓ) : Prop :=
  ∀ c : Dev Cert.Kernel.nD,
    (Cert.Pre_pi_is_3201_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_pi_is_3210_Kernel [hPre_pi_is_3210_Kernel : Cert.Pre_pi_is_3210_Kernel.Facts] (m : (ℓ : Loc Cert.Kernel.nD Cert.Kernel.τ Cert.Kernel.sig) → Buf (Elt Bits) ℓ) : Prop :=
  ∀ c : Dev Cert.Kernel.nD,
    (Cert.Pre_pi_is_3210_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pi_is_0123_Kernel : Cert.Pre_pi_is_0123_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0123_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0132_Kernel [hPre_pi_is_0132_Kernel : Cert.Pre_pi_is_0132_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0132_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0213_Kernel [hPre_pi_is_0213_Kernel : Cert.Pre_pi_is_0213_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0213_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0231_Kernel [hPre_pi_is_0231_Kernel : Cert.Pre_pi_is_0231_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0231_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0312_Kernel [hPre_pi_is_0312_Kernel : Cert.Pre_pi_is_0312_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0312_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_0321_Kernel [hPre_pi_is_0321_Kernel : Cert.Pre_pi_is_0321_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_0321_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1023_Kernel [hPre_pi_is_1023_Kernel : Cert.Pre_pi_is_1023_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1023_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1032_Kernel [hPre_pi_is_1032_Kernel : Cert.Pre_pi_is_1032_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1032_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1203_Kernel [hPre_pi_is_1203_Kernel : Cert.Pre_pi_is_1203_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1203_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1230_Kernel [hPre_pi_is_1230_Kernel : Cert.Pre_pi_is_1230_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1230_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1302_Kernel [hPre_pi_is_1302_Kernel : Cert.Pre_pi_is_1302_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1302_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_1320_Kernel [hPre_pi_is_1320_Kernel : Cert.Pre_pi_is_1320_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_1320_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2013_Kernel [hPre_pi_is_2013_Kernel : Cert.Pre_pi_is_2013_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2013_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2031_Kernel [hPre_pi_is_2031_Kernel : Cert.Pre_pi_is_2031_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2031_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2103_Kernel [hPre_pi_is_2103_Kernel : Cert.Pre_pi_is_2103_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2103_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2130_Kernel [hPre_pi_is_2130_Kernel : Cert.Pre_pi_is_2130_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2130_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2301_Kernel [hPre_pi_is_2301_Kernel : Cert.Pre_pi_is_2301_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2301_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_2310_Kernel [hPre_pi_is_2310_Kernel : Cert.Pre_pi_is_2310_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_2310_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3012_Kernel [hPre_pi_is_3012_Kernel : Cert.Pre_pi_is_3012_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3012_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3021_Kernel [hPre_pi_is_3021_Kernel : Cert.Pre_pi_is_3021_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3021_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3102_Kernel [hPre_pi_is_3102_Kernel : Cert.Pre_pi_is_3102_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3102_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3120_Kernel [hPre_pi_is_3120_Kernel : Cert.Pre_pi_is_3120_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3120_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3201_Kernel [hPre_pi_is_3201_Kernel : Cert.Pre_pi_is_3201_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3201_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_pi_is_3210_Kernel [hPre_pi_is_3210_Kernel : Cert.Pre_pi_is_3210_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_pi_is_3210_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pi_is_0123_ReferenceIdeal [hPre_pi_is_0123_ReferenceIdeal : Cert.Pre_pi_is_0123_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0123_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0132_ReferenceIdeal [hPre_pi_is_0132_ReferenceIdeal : Cert.Pre_pi_is_0132_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0132_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0213_ReferenceIdeal [hPre_pi_is_0213_ReferenceIdeal : Cert.Pre_pi_is_0213_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0213_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0231_ReferenceIdeal [hPre_pi_is_0231_ReferenceIdeal : Cert.Pre_pi_is_0231_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0231_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0312_ReferenceIdeal [hPre_pi_is_0312_ReferenceIdeal : Cert.Pre_pi_is_0312_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0312_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_0321_ReferenceIdeal [hPre_pi_is_0321_ReferenceIdeal : Cert.Pre_pi_is_0321_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_0321_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1023_ReferenceIdeal [hPre_pi_is_1023_ReferenceIdeal : Cert.Pre_pi_is_1023_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1023_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1032_ReferenceIdeal [hPre_pi_is_1032_ReferenceIdeal : Cert.Pre_pi_is_1032_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1032_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1203_ReferenceIdeal [hPre_pi_is_1203_ReferenceIdeal : Cert.Pre_pi_is_1203_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1203_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1230_ReferenceIdeal [hPre_pi_is_1230_ReferenceIdeal : Cert.Pre_pi_is_1230_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1230_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1302_ReferenceIdeal [hPre_pi_is_1302_ReferenceIdeal : Cert.Pre_pi_is_1302_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1302_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_1320_ReferenceIdeal [hPre_pi_is_1320_ReferenceIdeal : Cert.Pre_pi_is_1320_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_1320_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2013_ReferenceIdeal [hPre_pi_is_2013_ReferenceIdeal : Cert.Pre_pi_is_2013_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2013_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2031_ReferenceIdeal [hPre_pi_is_2031_ReferenceIdeal : Cert.Pre_pi_is_2031_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2031_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2103_ReferenceIdeal [hPre_pi_is_2103_ReferenceIdeal : Cert.Pre_pi_is_2103_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2103_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2130_ReferenceIdeal [hPre_pi_is_2130_ReferenceIdeal : Cert.Pre_pi_is_2130_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2130_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2301_ReferenceIdeal [hPre_pi_is_2301_ReferenceIdeal : Cert.Pre_pi_is_2301_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2301_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_2310_ReferenceIdeal [hPre_pi_is_2310_ReferenceIdeal : Cert.Pre_pi_is_2310_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_2310_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3012_ReferenceIdeal [hPre_pi_is_3012_ReferenceIdeal : Cert.Pre_pi_is_3012_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3012_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3021_ReferenceIdeal [hPre_pi_is_3021_ReferenceIdeal : Cert.Pre_pi_is_3021_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3021_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3102_ReferenceIdeal [hPre_pi_is_3102_ReferenceIdeal : Cert.Pre_pi_is_3102_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3102_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3120_ReferenceIdeal [hPre_pi_is_3120_ReferenceIdeal : Cert.Pre_pi_is_3120_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3120_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3201_ReferenceIdeal [hPre_pi_is_3201_ReferenceIdeal : Cert.Pre_pi_is_3201_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3201_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_pi_is_3210_ReferenceIdeal [hPre_pi_is_3210_ReferenceIdeal : Cert.Pre_pi_is_3210_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pi_is_3210_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_pi_is_0123_Kernel : Cert.Pre_pi_is_0123_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0132_Kernel [hKernel : Cert.Kernel.Facts] [hPre_pi_is_0132_Kernel : Cert.Pre_pi_is_0132_Kernel.Facts] : Prop :=
  ∀ (m : (ℓ : Loc Cert.Kernel.nD Cert.Kernel.τ Cert.Kernel.sig) → Buf (Elt Bits) ℓ) (g : Dev Cert.Kernel.nD → PrngReg), Pre_Kernel_pi_is_0132_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0213_Kernel [hKernel : Cert.Kernel.Facts] [hPre_pi_is_0213_Kernel : Cert.Pre_pi_is_0213_Kernel.Facts] : Prop :=
  ∀ (m : (ℓ : Loc Cert.Kernel.nD Cert.Kernel.τ Cert.Kernel.sig) → Buf (Elt Bits) ℓ) (g : Dev Cert.Kernel.nD → PrngReg), Pre_Kernel_pi_is_0213_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0231_Kernel [hKernel : Cert.Kernel.Facts] [hPre_pi_is_0231_Kernel : Cert.Pre_pi_is_0231_Kernel.Facts] : Prop :=
  ∀ (m : (ℓ : Loc Cert.Kernel.nD Cert.Kernel.τ Cert.Kernel.sig) → Buf (Elt Bits) ℓ) (g : Dev Cert.Kernel.nD → PrngReg), Pre_Kernel_pi_is_0231_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0312_Kernel [hKernel : Cert.Kernel.Facts] [hPre_pi_is_0312_Kernel : Cert.Pre_pi_is_0312_Kernel.Facts] : Prop :=
  ∀ (m : (ℓ : Loc Cert.Kernel.nD Cert.Kernel.τ Cert.Kernel.sig) → Buf (Elt Bits) ℓ) (g : Dev Cert.Kernel.nD → PrngReg), Pre_Kernel_pi_is_0312_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_0321_Kernel [hKernel : Cert.Kernel.Facts] [hPre_pi_is_0321_Kernel : Cert.Pre_pi_is_0321_Kernel.Facts] : Prop :=
  ∀ (m : (ℓ : Loc Cert.Kernel.nD Cert.Kernel.τ Cert.Kernel.sig) → Buf (Elt Bits) ℓ) (g : Dev Cert.Kernel.nD → PrngReg), Pre_Kernel_pi_is_0321_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1023_Kernel [hKernel : Cert.Kernel.Facts] [hPre_pi_is_1023_Kernel : Cert.Pre_pi_is_1023_Kernel.Facts] : Prop :=
  ∀ (m : (ℓ : Loc Cert.Kernel.nD Cert.Kernel.τ Cert.Kernel.sig) → Buf (Elt Bits) ℓ) (g : Dev Cert.Kernel.nD → PrngReg), Pre_Kernel_pi_is_1023_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1032_Kernel [hKernel : Cert.Kernel.Facts] [hPre_pi_is_1032_Kernel : Cert.Pre_pi_is_1032_Kernel.Facts] : Prop :=
  ∀ (m : (ℓ : Loc Cert.Kernel.nD Cert.Kernel.τ Cert.Kernel.sig) → Buf (Elt Bits) ℓ) (g : Dev Cert.Kernel.nD → PrngReg), Pre_Kernel_pi_is_1032_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1203_Kernel [hKernel : Cert.Kernel.Facts] [hPre_pi_is_1203_Kernel : Cert.Pre_pi_is_1203_Kernel.Facts] : Prop :=
  ∀ (m : (ℓ : Loc Cert.Kernel.nD Cert.Kernel.τ Cert.Kernel.sig) → Buf (Elt Bits) ℓ) (g : Dev Cert.Kernel.nD → PrngReg), Pre_Kernel_pi_is_1203_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1230_Kernel [hKernel : Cert.Kernel.Facts] [hPre_pi_is_1230_Kernel : Cert.Pre_pi_is_1230_Kernel.Facts] : Prop :=
  ∀ (m : (ℓ : Loc Cert.Kernel.nD Cert.Kernel.τ Cert.Kernel.sig) → Buf (Elt Bits) ℓ) (g : Dev Cert.Kernel.nD → PrngReg), Pre_Kernel_pi_is_1230_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1302_Kernel [hKernel : Cert.Kernel.Facts] [hPre_pi_is_1302_Kernel : Cert.Pre_pi_is_1302_Kernel.Facts] : Prop :=
  ∀ (m : (ℓ : Loc Cert.Kernel.nD Cert.Kernel.τ Cert.Kernel.sig) → Buf (Elt Bits) ℓ) (g : Dev Cert.Kernel.nD → PrngReg), Pre_Kernel_pi_is_1302_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_1320_Kernel [hKernel : Cert.Kernel.Facts] [hPre_pi_is_1320_Kernel : Cert.Pre_pi_is_1320_Kernel.Facts] : Prop :=
  ∀ (m : (ℓ : Loc Cert.Kernel.nD Cert.Kernel.τ Cert.Kernel.sig) → Buf (Elt Bits) ℓ) (g : Dev Cert.Kernel.nD → PrngReg), Pre_Kernel_pi_is_1320_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2013_Kernel [hKernel : Cert.Kernel.Facts] [hPre_pi_is_2013_Kernel : Cert.Pre_pi_is_2013_Kernel.Facts] : Prop :=
  ∀ (m : (ℓ : Loc Cert.Kernel.nD Cert.Kernel.τ Cert.Kernel.sig) → Buf (Elt Bits) ℓ) (g : Dev Cert.Kernel.nD → PrngReg), Pre_Kernel_pi_is_2013_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2031_Kernel [hKernel : Cert.Kernel.Facts] [hPre_pi_is_2031_Kernel : Cert.Pre_pi_is_2031_Kernel.Facts] : Prop :=
  ∀ (m : (ℓ : Loc Cert.Kernel.nD Cert.Kernel.τ Cert.Kernel.sig) → Buf (Elt Bits) ℓ) (g : Dev Cert.Kernel.nD → PrngReg), Pre_Kernel_pi_is_2031_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2103_Kernel [hKernel : Cert.Kernel.Facts] [hPre_pi_is_2103_Kernel : Cert.Pre_pi_is_2103_Kernel.Facts] : Prop :=
  ∀ (m : (ℓ : Loc Cert.Kernel.nD Cert.Kernel.τ Cert.Kernel.sig) → Buf (Elt Bits) ℓ) (g : Dev Cert.Kernel.nD → PrngReg), Pre_Kernel_pi_is_2103_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2130_Kernel [hKernel : Cert.Kernel.Facts] [hPre_pi_is_2130_Kernel : Cert.Pre_pi_is_2130_Kernel.Facts] : Prop :=
  ∀ (m : (ℓ : Loc Cert.Kernel.nD Cert.Kernel.τ Cert.Kernel.sig) → Buf (Elt Bits) ℓ) (g : Dev Cert.Kernel.nD → PrngReg), Pre_Kernel_pi_is_2130_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2301_Kernel [hKernel : Cert.Kernel.Facts] [hPre_pi_is_2301_Kernel : Cert.Pre_pi_is_2301_Kernel.Facts] : Prop :=
  ∀ (m : (ℓ : Loc Cert.Kernel.nD Cert.Kernel.τ Cert.Kernel.sig) → Buf (Elt Bits) ℓ) (g : Dev Cert.Kernel.nD → PrngReg), Pre_Kernel_pi_is_2301_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_2310_Kernel [hKernel : Cert.Kernel.Facts] [hPre_pi_is_2310_Kernel : Cert.Pre_pi_is_2310_Kernel.Facts] : Prop :=
  ∀ (m : (ℓ : Loc Cert.Kernel.nD Cert.Kernel.τ Cert.Kernel.sig) → Buf (Elt Bits) ℓ) (g : Dev Cert.Kernel.nD → PrngReg), Pre_Kernel_pi_is_2310_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3012_Kernel [hKernel : Cert.Kernel.Facts] [hPre_pi_is_3012_Kernel : Cert.Pre_pi_is_3012_Kernel.Facts] : Prop :=
  ∀ (m : (ℓ : Loc Cert.Kernel.nD Cert.Kernel.τ Cert.Kernel.sig) → Buf (Elt Bits) ℓ) (g : Dev Cert.Kernel.nD → PrngReg), Pre_Kernel_pi_is_3012_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3021_Kernel [hKernel : Cert.Kernel.Facts] [hPre_pi_is_3021_Kernel : Cert.Pre_pi_is_3021_Kernel.Facts] : Prop :=
  ∀ (m : (ℓ : Loc Cert.Kernel.nD Cert.Kernel.τ Cert.Kernel.sig) → Buf (Elt Bits) ℓ) (g : Dev Cert.Kernel.nD → PrngReg), Pre_Kernel_pi_is_3021_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3102_Kernel [hKernel : Cert.Kernel.Facts] [hPre_pi_is_3102_Kernel : Cert.Pre_pi_is_3102_Kernel.Facts] : Prop :=
  ∀ (m : (ℓ : Loc Cert.Kernel.nD Cert.Kernel.τ Cert.Kernel.sig) → Buf (Elt Bits) ℓ) (g : Dev Cert.Kernel.nD → PrngReg), Pre_Kernel_pi_is_3102_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3120_Kernel [hKernel : Cert.Kernel.Facts] [hPre_pi_is_3120_Kernel : Cert.Pre_pi_is_3120_Kernel.Facts] : Prop :=
  ∀ (m : (ℓ : Loc Cert.Kernel.nD Cert.Kernel.τ Cert.Kernel.sig) → Buf (Elt Bits) ℓ) (g : Dev Cert.Kernel.nD → PrngReg), Pre_Kernel_pi_is_3120_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3201_Kernel [hKernel : Cert.Kernel.Facts] [hPre_pi_is_3201_Kernel : Cert.Pre_pi_is_3201_Kernel.Facts] : Prop :=
  ∀ (m : (ℓ : Loc Cert.Kernel.nD Cert.Kernel.τ Cert.Kernel.sig) → Buf (Elt Bits) ℓ) (g : Dev Cert.Kernel.nD → PrngReg), Pre_Kernel_pi_is_3201_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_pi_is_3210_Kernel [hKernel : Cert.Kernel.Facts] [hPre_pi_is_3210_Kernel : Cert.Pre_pi_is_3210_Kernel.Facts] : Prop :=
  ∀ (m : (ℓ : Loc Cert.Kernel.nD Cert.Kernel.τ Cert.Kernel.sig) → Buf (Elt Bits) ℓ) (g : Dev Cert.Kernel.nD → PrngReg), Pre_Kernel_pi_is_3210_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0132_Kernel [hKernelIdeal : Cert.KernelIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0132_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0213_Kernel [hKernelIdeal : Cert.KernelIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0213_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0231_Kernel [hKernelIdeal : Cert.KernelIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0231_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0312_Kernel [hKernelIdeal : Cert.KernelIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0312_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_0321_Kernel [hKernelIdeal : Cert.KernelIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_0321_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1023_Kernel [hKernelIdeal : Cert.KernelIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1023_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1032_Kernel [hKernelIdeal : Cert.KernelIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1032_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1203_Kernel [hKernelIdeal : Cert.KernelIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1203_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1230_Kernel [hKernelIdeal : Cert.KernelIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1230_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1302_Kernel [hKernelIdeal : Cert.KernelIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1302_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_1320_Kernel [hKernelIdeal : Cert.KernelIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_1320_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2013_Kernel [hKernelIdeal : Cert.KernelIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2013_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2031_Kernel [hKernelIdeal : Cert.KernelIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2031_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2103_Kernel [hKernelIdeal : Cert.KernelIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2103_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2130_Kernel [hKernelIdeal : Cert.KernelIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2130_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2301_Kernel [hKernelIdeal : Cert.KernelIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2301_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_2310_Kernel [hKernelIdeal : Cert.KernelIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_2310_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3012_Kernel [hKernelIdeal : Cert.KernelIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3012_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3021_Kernel [hKernelIdeal : Cert.KernelIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3021_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3102_Kernel [hKernelIdeal : Cert.KernelIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3102_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3120_Kernel [hKernelIdeal : Cert.KernelIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3120_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3201_Kernel [hKernelIdeal : Cert.KernelIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3201_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pi_is_3210_Kernel [hKernelIdeal : Cert.KernelIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pi_is_3210_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0123_ReferenceIdeal [hReferenceIdeal : Cert.ReferenceIdeal.Facts] [hPre_pi_is_0123_ReferenceIdeal : Cert.Pre_pi_is_0123_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0123_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0132_ReferenceIdeal [hReferenceIdeal : Cert.ReferenceIdeal.Facts] [hPre_pi_is_0132_ReferenceIdeal : Cert.Pre_pi_is_0132_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0132_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0213_ReferenceIdeal [hReferenceIdeal : Cert.ReferenceIdeal.Facts] [hPre_pi_is_0213_ReferenceIdeal : Cert.Pre_pi_is_0213_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0213_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0231_ReferenceIdeal [hReferenceIdeal : Cert.ReferenceIdeal.Facts] [hPre_pi_is_0231_ReferenceIdeal : Cert.Pre_pi_is_0231_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0231_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0312_ReferenceIdeal [hReferenceIdeal : Cert.ReferenceIdeal.Facts] [hPre_pi_is_0312_ReferenceIdeal : Cert.Pre_pi_is_0312_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0312_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_0321_ReferenceIdeal [hReferenceIdeal : Cert.ReferenceIdeal.Facts] [hPre_pi_is_0321_ReferenceIdeal : Cert.Pre_pi_is_0321_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_0321_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1023_ReferenceIdeal [hReferenceIdeal : Cert.ReferenceIdeal.Facts] [hPre_pi_is_1023_ReferenceIdeal : Cert.Pre_pi_is_1023_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1023_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1032_ReferenceIdeal [hReferenceIdeal : Cert.ReferenceIdeal.Facts] [hPre_pi_is_1032_ReferenceIdeal : Cert.Pre_pi_is_1032_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1032_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1203_ReferenceIdeal [hReferenceIdeal : Cert.ReferenceIdeal.Facts] [hPre_pi_is_1203_ReferenceIdeal : Cert.Pre_pi_is_1203_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1203_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1230_ReferenceIdeal [hReferenceIdeal : Cert.ReferenceIdeal.Facts] [hPre_pi_is_1230_ReferenceIdeal : Cert.Pre_pi_is_1230_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1230_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1302_ReferenceIdeal [hReferenceIdeal : Cert.ReferenceIdeal.Facts] [hPre_pi_is_1302_ReferenceIdeal : Cert.Pre_pi_is_1302_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1302_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_1320_ReferenceIdeal [hReferenceIdeal : Cert.ReferenceIdeal.Facts] [hPre_pi_is_1320_ReferenceIdeal : Cert.Pre_pi_is_1320_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_1320_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2013_ReferenceIdeal [hReferenceIdeal : Cert.ReferenceIdeal.Facts] [hPre_pi_is_2013_ReferenceIdeal : Cert.Pre_pi_is_2013_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2013_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2031_ReferenceIdeal [hReferenceIdeal : Cert.ReferenceIdeal.Facts] [hPre_pi_is_2031_ReferenceIdeal : Cert.Pre_pi_is_2031_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2031_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2103_ReferenceIdeal [hReferenceIdeal : Cert.ReferenceIdeal.Facts] [hPre_pi_is_2103_ReferenceIdeal : Cert.Pre_pi_is_2103_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2103_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2130_ReferenceIdeal [hReferenceIdeal : Cert.ReferenceIdeal.Facts] [hPre_pi_is_2130_ReferenceIdeal : Cert.Pre_pi_is_2130_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2130_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2301_ReferenceIdeal [hReferenceIdeal : Cert.ReferenceIdeal.Facts] [hPre_pi_is_2301_ReferenceIdeal : Cert.Pre_pi_is_2301_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2301_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_2310_ReferenceIdeal [hReferenceIdeal : Cert.ReferenceIdeal.Facts] [hPre_pi_is_2310_ReferenceIdeal : Cert.Pre_pi_is_2310_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_2310_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3012_ReferenceIdeal [hReferenceIdeal : Cert.ReferenceIdeal.Facts] [hPre_pi_is_3012_ReferenceIdeal : Cert.Pre_pi_is_3012_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3012_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3021_ReferenceIdeal [hReferenceIdeal : Cert.ReferenceIdeal.Facts] [hPre_pi_is_3021_ReferenceIdeal : Cert.Pre_pi_is_3021_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3021_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3102_ReferenceIdeal [hReferenceIdeal : Cert.ReferenceIdeal.Facts] [hPre_pi_is_3102_ReferenceIdeal : Cert.Pre_pi_is_3102_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3102_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3120_ReferenceIdeal [hReferenceIdeal : Cert.ReferenceIdeal.Facts] [hPre_pi_is_3120_ReferenceIdeal : Cert.Pre_pi_is_3120_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3120_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3201_ReferenceIdeal [hReferenceIdeal : Cert.ReferenceIdeal.Facts] [hPre_pi_is_3201_ReferenceIdeal : Cert.Pre_pi_is_3201_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3201_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pi_is_3210_ReferenceIdeal [hReferenceIdeal : Cert.ReferenceIdeal.Facts] [hPre_pi_is_3210_ReferenceIdeal : Cert.Pre_pi_is_3210_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pi_is_3210_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pi_is_0123_Kernel : Cert.Pre_pi_is_0123_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0132_Kernel [hKernelIdeal : Cert.KernelIdeal.Facts] [hReferenceIdeal : Cert.ReferenceIdeal.Facts] [hPre_pi_is_0132_Kernel : Cert.Pre_pi_is_0132_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0132_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0213_Kernel [hKernelIdeal : Cert.KernelIdeal.Facts] [hReferenceIdeal : Cert.ReferenceIdeal.Facts] [hPre_pi_is_0213_Kernel : Cert.Pre_pi_is_0213_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0213_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0231_Kernel [hKernelIdeal : Cert.KernelIdeal.Facts] [hReferenceIdeal : Cert.ReferenceIdeal.Facts] [hPre_pi_is_0231_Kernel : Cert.Pre_pi_is_0231_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0231_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0312_Kernel [hKernelIdeal : Cert.KernelIdeal.Facts] [hReferenceIdeal : Cert.ReferenceIdeal.Facts] [hPre_pi_is_0312_Kernel : Cert.Pre_pi_is_0312_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0312_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_0321_Kernel [hKernelIdeal : Cert.KernelIdeal.Facts] [hReferenceIdeal : Cert.ReferenceIdeal.Facts] [hPre_pi_is_0321_Kernel : Cert.Pre_pi_is_0321_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_0321_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1023_Kernel [hKernelIdeal : Cert.KernelIdeal.Facts] [hReferenceIdeal : Cert.ReferenceIdeal.Facts] [hPre_pi_is_1023_Kernel : Cert.Pre_pi_is_1023_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1023_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1032_Kernel [hKernelIdeal : Cert.KernelIdeal.Facts] [hReferenceIdeal : Cert.ReferenceIdeal.Facts] [hPre_pi_is_1032_Kernel : Cert.Pre_pi_is_1032_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1032_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1203_Kernel [hKernelIdeal : Cert.KernelIdeal.Facts] [hReferenceIdeal : Cert.ReferenceIdeal.Facts] [hPre_pi_is_1203_Kernel : Cert.Pre_pi_is_1203_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1203_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1230_Kernel [hKernelIdeal : Cert.KernelIdeal.Facts] [hReferenceIdeal : Cert.ReferenceIdeal.Facts] [hPre_pi_is_1230_Kernel : Cert.Pre_pi_is_1230_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1230_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1302_Kernel [hKernelIdeal : Cert.KernelIdeal.Facts] [hReferenceIdeal : Cert.ReferenceIdeal.Facts] [hPre_pi_is_1302_Kernel : Cert.Pre_pi_is_1302_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1302_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_1320_Kernel [hKernelIdeal : Cert.KernelIdeal.Facts] [hReferenceIdeal : Cert.ReferenceIdeal.Facts] [hPre_pi_is_1320_Kernel : Cert.Pre_pi_is_1320_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_1320_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2013_Kernel [hKernelIdeal : Cert.KernelIdeal.Facts] [hReferenceIdeal : Cert.ReferenceIdeal.Facts] [hPre_pi_is_2013_Kernel : Cert.Pre_pi_is_2013_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2013_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2031_Kernel [hKernelIdeal : Cert.KernelIdeal.Facts] [hReferenceIdeal : Cert.ReferenceIdeal.Facts] [hPre_pi_is_2031_Kernel : Cert.Pre_pi_is_2031_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2031_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2103_Kernel [hKernelIdeal : Cert.KernelIdeal.Facts] [hReferenceIdeal : Cert.ReferenceIdeal.Facts] [hPre_pi_is_2103_Kernel : Cert.Pre_pi_is_2103_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2103_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2130_Kernel [hKernelIdeal : Cert.KernelIdeal.Facts] [hReferenceIdeal : Cert.ReferenceIdeal.Facts] [hPre_pi_is_2130_Kernel : Cert.Pre_pi_is_2130_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2130_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2301_Kernel [hKernelIdeal : Cert.KernelIdeal.Facts] [hReferenceIdeal : Cert.ReferenceIdeal.Facts] [hPre_pi_is_2301_Kernel : Cert.Pre_pi_is_2301_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2301_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_2310_Kernel [hKernelIdeal : Cert.KernelIdeal.Facts] [hReferenceIdeal : Cert.ReferenceIdeal.Facts] [hPre_pi_is_2310_Kernel : Cert.Pre_pi_is_2310_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_2310_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3012_Kernel [hKernelIdeal : Cert.KernelIdeal.Facts] [hReferenceIdeal : Cert.ReferenceIdeal.Facts] [hPre_pi_is_3012_Kernel : Cert.Pre_pi_is_3012_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3012_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3021_Kernel [hKernelIdeal : Cert.KernelIdeal.Facts] [hReferenceIdeal : Cert.ReferenceIdeal.Facts] [hPre_pi_is_3021_Kernel : Cert.Pre_pi_is_3021_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3021_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3102_Kernel [hKernelIdeal : Cert.KernelIdeal.Facts] [hReferenceIdeal : Cert.ReferenceIdeal.Facts] [hPre_pi_is_3102_Kernel : Cert.Pre_pi_is_3102_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3102_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3120_Kernel [hKernelIdeal : Cert.KernelIdeal.Facts] [hReferenceIdeal : Cert.ReferenceIdeal.Facts] [hPre_pi_is_3120_Kernel : Cert.Pre_pi_is_3120_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3120_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3201_Kernel [hKernelIdeal : Cert.KernelIdeal.Facts] [hReferenceIdeal : Cert.ReferenceIdeal.Facts] [hPre_pi_is_3201_Kernel : Cert.Pre_pi_is_3201_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3201_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_pi_is_3210_Kernel [hKernelIdeal : Cert.KernelIdeal.Facts] [hReferenceIdeal : Cert.ReferenceIdeal.Facts] [hPre_pi_is_3210_Kernel : Cert.Pre_pi_is_3210_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pi_is_3210_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![4, 512, 512]⟩ (Layout.meshBlock [2, 2, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pi_is_0123_Kernel : Cert.Pre_pi_is_0123_Kernel.Facts) (hPre_pi_is_0132_Kernel : Cert.Pre_pi_is_0132_Kernel.Facts) (hPre_pi_is_0213_Kernel : Cert.Pre_pi_is_0213_Kernel.Facts) (hPre_pi_is_0231_Kernel : Cert.Pre_pi_is_0231_Kernel.Facts) (hPre_pi_is_0312_Kernel : Cert.Pre_pi_is_0312_Kernel.Facts) (hPre_pi_is_0321_Kernel : Cert.Pre_pi_is_0321_Kernel.Facts) (hPre_pi_is_1023_Kernel : Cert.Pre_pi_is_1023_Kernel.Facts) (hPre_pi_is_1032_Kernel : Cert.Pre_pi_is_1032_Kernel.Facts) (hPre_pi_is_1203_Kernel : Cert.Pre_pi_is_1203_Kernel.Facts) (hPre_pi_is_1230_Kernel : Cert.Pre_pi_is_1230_Kernel.Facts) (hPre_pi_is_1302_Kernel : Cert.Pre_pi_is_1302_Kernel.Facts) (hPre_pi_is_1320_Kernel : Cert.Pre_pi_is_1320_Kernel.Facts) (hPre_pi_is_2013_Kernel : Cert.Pre_pi_is_2013_Kernel.Facts) (hPre_pi_is_2031_Kernel : Cert.Pre_pi_is_2031_Kernel.Facts) (hPre_pi_is_2103_Kernel : Cert.Pre_pi_is_2103_Kernel.Facts) (hPre_pi_is_2130_Kernel : Cert.Pre_pi_is_2130_Kernel.Facts) (hPre_pi_is_2301_Kernel : Cert.Pre_pi_is_2301_Kernel.Facts) (hPre_pi_is_2310_Kernel : Cert.Pre_pi_is_2310_Kernel.Facts) (hPre_pi_is_3012_Kernel : Cert.Pre_pi_is_3012_Kernel.Facts) (hPre_pi_is_3021_Kernel : Cert.Pre_pi_is_3021_Kernel.Facts) (hPre_pi_is_3102_Kernel : Cert.Pre_pi_is_3102_Kernel.Facts) (hPre_pi_is_3120_Kernel : Cert.Pre_pi_is_3120_Kernel.Facts) (hPre_pi_is_3201_Kernel : Cert.Pre_pi_is_3201_Kernel.Facts) (hPre_pi_is_3210_Kernel : Cert.Pre_pi_is_3210_Kernel.Facts) (hPre_pi_is_0123_ReferenceIdeal : Cert.Pre_pi_is_0123_ReferenceIdeal.Facts) (hPre_pi_is_0132_ReferenceIdeal : Cert.Pre_pi_is_0132_ReferenceIdeal.Facts) (hPre_pi_is_0213_ReferenceIdeal : Cert.Pre_pi_is_0213_ReferenceIdeal.Facts) (hPre_pi_is_0231_ReferenceIdeal : Cert.Pre_pi_is_0231_ReferenceIdeal.Facts) (hPre_pi_is_0312_ReferenceIdeal : Cert.Pre_pi_is_0312_ReferenceIdeal.Facts) (hPre_pi_is_0321_ReferenceIdeal : Cert.Pre_pi_is_0321_ReferenceIdeal.Facts) (hPre_pi_is_1023_ReferenceIdeal : Cert.Pre_pi_is_1023_ReferenceIdeal.Facts) (hPre_pi_is_1032_ReferenceIdeal : Cert.Pre_pi_is_1032_ReferenceIdeal.Facts) (hPre_pi_is_1203_ReferenceIdeal : Cert.Pre_pi_is_1203_ReferenceIdeal.Facts) (hPre_pi_is_1230_ReferenceIdeal : Cert.Pre_pi_is_1230_ReferenceIdeal.Facts) (hPre_pi_is_1302_ReferenceIdeal : Cert.Pre_pi_is_1302_ReferenceIdeal.Facts) (hPre_pi_is_1320_ReferenceIdeal : Cert.Pre_pi_is_1320_ReferenceIdeal.Facts) (hPre_pi_is_2013_ReferenceIdeal : Cert.Pre_pi_is_2013_ReferenceIdeal.Facts) (hPre_pi_is_2031_ReferenceIdeal : Cert.Pre_pi_is_2031_ReferenceIdeal.Facts) (hPre_pi_is_2103_ReferenceIdeal : Cert.Pre_pi_is_2103_ReferenceIdeal.Facts) (hPre_pi_is_2130_ReferenceIdeal : Cert.Pre_pi_is_2130_ReferenceIdeal.Facts) (hPre_pi_is_2301_ReferenceIdeal : Cert.Pre_pi_is_2301_ReferenceIdeal.Facts) (hPre_pi_is_2310_ReferenceIdeal : Cert.Pre_pi_is_2310_ReferenceIdeal.Facts) (hPre_pi_is_3012_ReferenceIdeal : Cert.Pre_pi_is_3012_ReferenceIdeal.Facts) (hPre_pi_is_3021_ReferenceIdeal : Cert.Pre_pi_is_3021_ReferenceIdeal.Facts) (hPre_pi_is_3102_ReferenceIdeal : Cert.Pre_pi_is_3102_ReferenceIdeal.Facts) (hPre_pi_is_3120_ReferenceIdeal : Cert.Pre_pi_is_3120_ReferenceIdeal.Facts) (hPre_pi_is_3201_ReferenceIdeal : Cert.Pre_pi_is_3201_ReferenceIdeal.Facts) (hPre_pi_is_3210_ReferenceIdeal : Cert.Pre_pi_is_3210_ReferenceIdeal.Facts),
    quiescent_Kernel (hKernel := hKernel) (hPre_pi_is_0123_Kernel := hPre_pi_is_0123_Kernel)
    ∧ quiescent_Kernel_pre_pi_is_0132_Kernel (hKernel := hKernel) (hPre_pi_is_0132_Kernel := hPre_pi_is_0132_Kernel)
    ∧ quiescent_Kernel_pre_pi_is_0213_Kernel (hKernel := hKernel) (hPre_pi_is_0213_Kernel := hPre_pi_is_0213_Kernel)
    ∧ quiescent_Kernel_pre_pi_is_0231_Kernel (hKernel := hKernel) (hPre_pi_is_0231_Kernel := hPre_pi_is_0231_Kernel)
    ∧ quiescent_Kernel_pre_pi_is_0312_Kernel (hKernel := hKernel) (hPre_pi_is_0312_Kernel := hPre_pi_is_0312_Kernel)
    ∧ quiescent_Kernel_pre_pi_is_0321_Kernel (hKernel := hKernel) (hPre_pi_is_0321_Kernel := hPre_pi_is_0321_Kernel)
    ∧ quiescent_Kernel_pre_pi_is_1023_Kernel (hKernel := hKernel) (hPre_pi_is_1023_Kernel := hPre_pi_is_1023_Kernel)
    ∧ quiescent_Kernel_pre_pi_is_1032_Kernel (hKernel := hKernel) (hPre_pi_is_1032_Kernel := hPre_pi_is_1032_Kernel)
    ∧ quiescent_Kernel_pre_pi_is_1203_Kernel (hKernel := hKernel) (hPre_pi_is_1203_Kernel := hPre_pi_is_1203_Kernel)
    ∧ quiescent_Kernel_pre_pi_is_1230_Kernel (hKernel := hKernel) (hPre_pi_is_1230_Kernel := hPre_pi_is_1230_Kernel)
    ∧ quiescent_Kernel_pre_pi_is_1302_Kernel (hKernel := hKernel) (hPre_pi_is_1302_Kernel := hPre_pi_is_1302_Kernel)
    ∧ quiescent_Kernel_pre_pi_is_1320_Kernel (hKernel := hKernel) (hPre_pi_is_1320_Kernel := hPre_pi_is_1320_Kernel)
    ∧ quiescent_Kernel_pre_pi_is_2013_Kernel (hKernel := hKernel) (hPre_pi_is_2013_Kernel := hPre_pi_is_2013_Kernel)
    ∧ quiescent_Kernel_pre_pi_is_2031_Kernel (hKernel := hKernel) (hPre_pi_is_2031_Kernel := hPre_pi_is_2031_Kernel)
    ∧ quiescent_Kernel_pre_pi_is_2103_Kernel (hKernel := hKernel) (hPre_pi_is_2103_Kernel := hPre_pi_is_2103_Kernel)
    ∧ quiescent_Kernel_pre_pi_is_2130_Kernel (hKernel := hKernel) (hPre_pi_is_2130_Kernel := hPre_pi_is_2130_Kernel)
    ∧ quiescent_Kernel_pre_pi_is_2301_Kernel (hKernel := hKernel) (hPre_pi_is_2301_Kernel := hPre_pi_is_2301_Kernel)
    ∧ quiescent_Kernel_pre_pi_is_2310_Kernel (hKernel := hKernel) (hPre_pi_is_2310_Kernel := hPre_pi_is_2310_Kernel)
    ∧ quiescent_Kernel_pre_pi_is_3012_Kernel (hKernel := hKernel) (hPre_pi_is_3012_Kernel := hPre_pi_is_3012_Kernel)
    ∧ quiescent_Kernel_pre_pi_is_3021_Kernel (hKernel := hKernel) (hPre_pi_is_3021_Kernel := hPre_pi_is_3021_Kernel)
    ∧ quiescent_Kernel_pre_pi_is_3102_Kernel (hKernel := hKernel) (hPre_pi_is_3102_Kernel := hPre_pi_is_3102_Kernel)
    ∧ quiescent_Kernel_pre_pi_is_3120_Kernel (hKernel := hKernel) (hPre_pi_is_3120_Kernel := hPre_pi_is_3120_Kernel)
    ∧ quiescent_Kernel_pre_pi_is_3201_Kernel (hKernel := hKernel) (hPre_pi_is_3201_Kernel := hPre_pi_is_3201_Kernel)
    ∧ quiescent_Kernel_pre_pi_is_3210_Kernel (hKernel := hKernel) (hPre_pi_is_3210_Kernel := hPre_pi_is_3210_Kernel)
    ∧ quiescent_KernelIdeal (hKernelIdeal := hKernelIdeal) (hPre_pi_is_0123_Kernel := hPre_pi_is_0123_Kernel)
    ∧ quiescent_KernelIdeal_pre_pi_is_0132_Kernel (hKernelIdeal := hKernelIdeal) (hPre_pi_is_0132_Kernel := hPre_pi_is_0132_Kernel)
    ∧ quiescent_KernelIdeal_pre_pi_is_0213_Kernel (hKernelIdeal := hKernelIdeal) (hPre_pi_is_0213_Kernel := hPre_pi_is_0213_Kernel)
    ∧ quiescent_KernelIdeal_pre_pi_is_0231_Kernel (hKernelIdeal := hKernelIdeal) (hPre_pi_is_0231_Kernel := hPre_pi_is_0231_Kernel)
    ∧ quiescent_KernelIdeal_pre_pi_is_0312_Kernel (hKernelIdeal := hKernelIdeal) (hPre_pi_is_0312_Kernel := hPre_pi_is_0312_Kernel)
    ∧ quiescent_KernelIdeal_pre_pi_is_0321_Kernel (hKernelIdeal := hKernelIdeal) (hPre_pi_is_0321_Kernel := hPre_pi_is_0321_Kernel)
    ∧ quiescent_KernelIdeal_pre_pi_is_1023_Kernel (hKernelIdeal := hKernelIdeal) (hPre_pi_is_1023_Kernel := hPre_pi_is_1023_Kernel)
    ∧ quiescent_KernelIdeal_pre_pi_is_1032_Kernel (hKernelIdeal := hKernelIdeal) (hPre_pi_is_1032_Kernel := hPre_pi_is_1032_Kernel)
    ∧ quiescent_KernelIdeal_pre_pi_is_1203_Kernel (hKernelIdeal := hKernelIdeal) (hPre_pi_is_1203_Kernel := hPre_pi_is_1203_Kernel)
    ∧ quiescent_KernelIdeal_pre_pi_is_1230_Kernel (hKernelIdeal := hKernelIdeal) (hPre_pi_is_1230_Kernel := hPre_pi_is_1230_Kernel)
    ∧ quiescent_KernelIdeal_pre_pi_is_1302_Kernel (hKernelIdeal := hKernelIdeal) (hPre_pi_is_1302_Kernel := hPre_pi_is_1302_Kernel)
    ∧ quiescent_KernelIdeal_pre_pi_is_1320_Kernel (hKernelIdeal := hKernelIdeal) (hPre_pi_is_1320_Kernel := hPre_pi_is_1320_Kernel)
    ∧ quiescent_KernelIdeal_pre_pi_is_2013_Kernel (hKernelIdeal := hKernelIdeal) (hPre_pi_is_2013_Kernel := hPre_pi_is_2013_Kernel)
    ∧ quiescent_KernelIdeal_pre_pi_is_2031_Kernel (hKernelIdeal := hKernelIdeal) (hPre_pi_is_2031_Kernel := hPre_pi_is_2031_Kernel)
    ∧ quiescent_KernelIdeal_pre_pi_is_2103_Kernel (hKernelIdeal := hKernelIdeal) (hPre_pi_is_2103_Kernel := hPre_pi_is_2103_Kernel)
    ∧ quiescent_KernelIdeal_pre_pi_is_2130_Kernel (hKernelIdeal := hKernelIdeal) (hPre_pi_is_2130_Kernel := hPre_pi_is_2130_Kernel)
    ∧ quiescent_KernelIdeal_pre_pi_is_2301_Kernel (hKernelIdeal := hKernelIdeal) (hPre_pi_is_2301_Kernel := hPre_pi_is_2301_Kernel)
    ∧ quiescent_KernelIdeal_pre_pi_is_2310_Kernel (hKernelIdeal := hKernelIdeal) (hPre_pi_is_2310_Kernel := hPre_pi_is_2310_Kernel)
    ∧ quiescent_KernelIdeal_pre_pi_is_3012_Kernel (hKernelIdeal := hKernelIdeal) (hPre_pi_is_3012_Kernel := hPre_pi_is_3012_Kernel)
    ∧ quiescent_KernelIdeal_pre_pi_is_3021_Kernel (hKernelIdeal := hKernelIdeal) (hPre_pi_is_3021_Kernel := hPre_pi_is_3021_Kernel)
    ∧ quiescent_KernelIdeal_pre_pi_is_3102_Kernel (hKernelIdeal := hKernelIdeal) (hPre_pi_is_3102_Kernel := hPre_pi_is_3102_Kernel)
    ∧ quiescent_KernelIdeal_pre_pi_is_3120_Kernel (hKernelIdeal := hKernelIdeal) (hPre_pi_is_3120_Kernel := hPre_pi_is_3120_Kernel)
    ∧ quiescent_KernelIdeal_pre_pi_is_3201_Kernel (hKernelIdeal := hKernelIdeal) (hPre_pi_is_3201_Kernel := hPre_pi_is_3201_Kernel)
    ∧ quiescent_KernelIdeal_pre_pi_is_3210_Kernel (hKernelIdeal := hKernelIdeal) (hPre_pi_is_3210_Kernel := hPre_pi_is_3210_Kernel)
    ∧ quiescent_ReferenceIdeal (hReferenceIdeal := hReferenceIdeal)
    ∧ quiescent_ReferenceIdeal_pre_pi_is_0123_ReferenceIdeal (hReferenceIdeal := hReferenceIdeal) (hPre_pi_is_0123_ReferenceIdeal := hPre_pi_is_0123_ReferenceIdeal)
    ∧ quiescent_ReferenceIdeal_pre_pi_is_0132_ReferenceIdeal (hReferenceIdeal := hReferenceIdeal) (hPre_pi_is_0132_ReferenceIdeal := hPre_pi_is_0132_ReferenceIdeal)
    ∧ quiescent_ReferenceIdeal_pre_pi_is_0213_ReferenceIdeal (hReferenceIdeal := hReferenceIdeal) (hPre_pi_is_0213_ReferenceIdeal := hPre_pi_is_0213_ReferenceIdeal)
    ∧ quiescent_ReferenceIdeal_pre_pi_is_0231_ReferenceIdeal (hReferenceIdeal := hReferenceIdeal) (hPre_pi_is_0231_ReferenceIdeal := hPre_pi_is_0231_ReferenceIdeal)
    ∧ quiescent_ReferenceIdeal_pre_pi_is_0312_ReferenceIdeal (hReferenceIdeal := hReferenceIdeal) (hPre_pi_is_0312_ReferenceIdeal := hPre_pi_is_0312_ReferenceIdeal)
    ∧ quiescent_ReferenceIdeal_pre_pi_is_0321_ReferenceIdeal (hReferenceIdeal := hReferenceIdeal) (hPre_pi_is_0321_ReferenceIdeal := hPre_pi_is_0321_ReferenceIdeal)
    ∧ quiescent_ReferenceIdeal_pre_pi_is_1023_ReferenceIdeal (hReferenceIdeal := hReferenceIdeal) (hPre_pi_is_1023_ReferenceIdeal := hPre_pi_is_1023_ReferenceIdeal)
    ∧ quiescent_ReferenceIdeal_pre_pi_is_1032_ReferenceIdeal (hReferenceIdeal := hReferenceIdeal) (hPre_pi_is_1032_ReferenceIdeal := hPre_pi_is_1032_ReferenceIdeal)
    ∧ quiescent_ReferenceIdeal_pre_pi_is_1203_ReferenceIdeal (hReferenceIdeal := hReferenceIdeal) (hPre_pi_is_1203_ReferenceIdeal := hPre_pi_is_1203_ReferenceIdeal)
    ∧ quiescent_ReferenceIdeal_pre_pi_is_1230_ReferenceIdeal (hReferenceIdeal := hReferenceIdeal) (hPre_pi_is_1230_ReferenceIdeal := hPre_pi_is_1230_ReferenceIdeal)
    ∧ quiescent_ReferenceIdeal_pre_pi_is_1302_ReferenceIdeal (hReferenceIdeal := hReferenceIdeal) (hPre_pi_is_1302_ReferenceIdeal := hPre_pi_is_1302_ReferenceIdeal)
    ∧ quiescent_ReferenceIdeal_pre_pi_is_1320_ReferenceIdeal (hReferenceIdeal := hReferenceIdeal) (hPre_pi_is_1320_ReferenceIdeal := hPre_pi_is_1320_ReferenceIdeal)
    ∧ quiescent_ReferenceIdeal_pre_pi_is_2013_ReferenceIdeal (hReferenceIdeal := hReferenceIdeal) (hPre_pi_is_2013_ReferenceIdeal := hPre_pi_is_2013_ReferenceIdeal)
    ∧ quiescent_ReferenceIdeal_pre_pi_is_2031_ReferenceIdeal (hReferenceIdeal := hReferenceIdeal) (hPre_pi_is_2031_ReferenceIdeal := hPre_pi_is_2031_ReferenceIdeal)
    ∧ quiescent_ReferenceIdeal_pre_pi_is_2103_ReferenceIdeal (hReferenceIdeal := hReferenceIdeal) (hPre_pi_is_2103_ReferenceIdeal := hPre_pi_is_2103_ReferenceIdeal)
    ∧ quiescent_ReferenceIdeal_pre_pi_is_2130_ReferenceIdeal (hReferenceIdeal := hReferenceIdeal) (hPre_pi_is_2130_ReferenceIdeal := hPre_pi_is_2130_ReferenceIdeal)
    ∧ quiescent_ReferenceIdeal_pre_pi_is_2301_ReferenceIdeal (hReferenceIdeal := hReferenceIdeal) (hPre_pi_is_2301_ReferenceIdeal := hPre_pi_is_2301_ReferenceIdeal)
    ∧ quiescent_ReferenceIdeal_pre_pi_is_2310_ReferenceIdeal (hReferenceIdeal := hReferenceIdeal) (hPre_pi_is_2310_ReferenceIdeal := hPre_pi_is_2310_ReferenceIdeal)
    ∧ quiescent_ReferenceIdeal_pre_pi_is_3012_ReferenceIdeal (hReferenceIdeal := hReferenceIdeal) (hPre_pi_is_3012_ReferenceIdeal := hPre_pi_is_3012_ReferenceIdeal)
    ∧ quiescent_ReferenceIdeal_pre_pi_is_3021_ReferenceIdeal (hReferenceIdeal := hReferenceIdeal) (hPre_pi_is_3021_ReferenceIdeal := hPre_pi_is_3021_ReferenceIdeal)
    ∧ quiescent_ReferenceIdeal_pre_pi_is_3102_ReferenceIdeal (hReferenceIdeal := hReferenceIdeal) (hPre_pi_is_3102_ReferenceIdeal := hPre_pi_is_3102_ReferenceIdeal)
    ∧ quiescent_ReferenceIdeal_pre_pi_is_3120_ReferenceIdeal (hReferenceIdeal := hReferenceIdeal) (hPre_pi_is_3120_ReferenceIdeal := hPre_pi_is_3120_ReferenceIdeal)
    ∧ quiescent_ReferenceIdeal_pre_pi_is_3201_ReferenceIdeal (hReferenceIdeal := hReferenceIdeal) (hPre_pi_is_3201_ReferenceIdeal := hPre_pi_is_3201_ReferenceIdeal)
    ∧ quiescent_ReferenceIdeal_pre_pi_is_3210_ReferenceIdeal (hReferenceIdeal := hReferenceIdeal) (hPre_pi_is_3210_ReferenceIdeal := hPre_pi_is_3210_ReferenceIdeal)
    ∧ preserves_Kernel_KernelIdeal
    ∧ algebraic_KernelIdeal_ReferenceIdeal (hKernelIdeal := hKernelIdeal) (hReferenceIdeal := hReferenceIdeal) (hPre_pi_is_0123_Kernel := hPre_pi_is_0123_Kernel)
    ∧ algebraic_KernelIdeal_ReferenceIdeal_pre_pi_is_0132_Kernel (hKernelIdeal := hKernelIdeal) (hReferenceIdeal := hReferenceIdeal) (hPre_pi_is_0132_Kernel := hPre_pi_is_0132_Kernel)
    ∧ algebraic_KernelIdeal_ReferenceIdeal_pre_pi_is_0213_Kernel (hKernelIdeal := hKernelIdeal) (hReferenceIdeal := hReferenceIdeal) (hPre_pi_is_0213_Kernel := hPre_pi_is_0213_Kernel)
    ∧ algebraic_KernelIdeal_ReferenceIdeal_pre_pi_is_0231_Kernel (hKernelIdeal := hKernelIdeal) (hReferenceIdeal := hReferenceIdeal) (hPre_pi_is_0231_Kernel := hPre_pi_is_0231_Kernel)
    ∧ algebraic_KernelIdeal_ReferenceIdeal_pre_pi_is_0312_Kernel (hKernelIdeal := hKernelIdeal) (hReferenceIdeal := hReferenceIdeal) (hPre_pi_is_0312_Kernel := hPre_pi_is_0312_Kernel)
    ∧ algebraic_KernelIdeal_ReferenceIdeal_pre_pi_is_0321_Kernel (hKernelIdeal := hKernelIdeal) (hReferenceIdeal := hReferenceIdeal) (hPre_pi_is_0321_Kernel := hPre_pi_is_0321_Kernel)
    ∧ algebraic_KernelIdeal_ReferenceIdeal_pre_pi_is_1023_Kernel (hKernelIdeal := hKernelIdeal) (hReferenceIdeal := hReferenceIdeal) (hPre_pi_is_1023_Kernel := hPre_pi_is_1023_Kernel)
    ∧ algebraic_KernelIdeal_ReferenceIdeal_pre_pi_is_1032_Kernel (hKernelIdeal := hKernelIdeal) (hReferenceIdeal := hReferenceIdeal) (hPre_pi_is_1032_Kernel := hPre_pi_is_1032_Kernel)
    ∧ algebraic_KernelIdeal_ReferenceIdeal_pre_pi_is_1203_Kernel (hKernelIdeal := hKernelIdeal) (hReferenceIdeal := hReferenceIdeal) (hPre_pi_is_1203_Kernel := hPre_pi_is_1203_Kernel)
    ∧ algebraic_KernelIdeal_ReferenceIdeal_pre_pi_is_1230_Kernel (hKernelIdeal := hKernelIdeal) (hReferenceIdeal := hReferenceIdeal) (hPre_pi_is_1230_Kernel := hPre_pi_is_1230_Kernel)
    ∧ algebraic_KernelIdeal_ReferenceIdeal_pre_pi_is_1302_Kernel (hKernelIdeal := hKernelIdeal) (hReferenceIdeal := hReferenceIdeal) (hPre_pi_is_1302_Kernel := hPre_pi_is_1302_Kernel)
    ∧ algebraic_KernelIdeal_ReferenceIdeal_pre_pi_is_1320_Kernel (hKernelIdeal := hKernelIdeal) (hReferenceIdeal := hReferenceIdeal) (hPre_pi_is_1320_Kernel := hPre_pi_is_1320_Kernel)
    ∧ algebraic_KernelIdeal_ReferenceIdeal_pre_pi_is_2013_Kernel (hKernelIdeal := hKernelIdeal) (hReferenceIdeal := hReferenceIdeal) (hPre_pi_is_2013_Kernel := hPre_pi_is_2013_Kernel)
    ∧ algebraic_KernelIdeal_ReferenceIdeal_pre_pi_is_2031_Kernel (hKernelIdeal := hKernelIdeal) (hReferenceIdeal := hReferenceIdeal) (hPre_pi_is_2031_Kernel := hPre_pi_is_2031_Kernel)
    ∧ algebraic_KernelIdeal_ReferenceIdeal_pre_pi_is_2103_Kernel (hKernelIdeal := hKernelIdeal) (hReferenceIdeal := hReferenceIdeal) (hPre_pi_is_2103_Kernel := hPre_pi_is_2103_Kernel)
    ∧ algebraic_KernelIdeal_ReferenceIdeal_pre_pi_is_2130_Kernel (hKernelIdeal := hKernelIdeal) (hReferenceIdeal := hReferenceIdeal) (hPre_pi_is_2130_Kernel := hPre_pi_is_2130_Kernel)
    ∧ algebraic_KernelIdeal_ReferenceIdeal_pre_pi_is_2301_Kernel (hKernelIdeal := hKernelIdeal) (hReferenceIdeal := hReferenceIdeal) (hPre_pi_is_2301_Kernel := hPre_pi_is_2301_Kernel)
    ∧ algebraic_KernelIdeal_ReferenceIdeal_pre_pi_is_2310_Kernel (hKernelIdeal := hKernelIdeal) (hReferenceIdeal := hReferenceIdeal) (hPre_pi_is_2310_Kernel := hPre_pi_is_2310_Kernel)
    ∧ algebraic_KernelIdeal_ReferenceIdeal_pre_pi_is_3012_Kernel (hKernelIdeal := hKernelIdeal) (hReferenceIdeal := hReferenceIdeal) (hPre_pi_is_3012_Kernel := hPre_pi_is_3012_Kernel)
    ∧ algebraic_KernelIdeal_ReferenceIdeal_pre_pi_is_3021_Kernel (hKernelIdeal := hKernelIdeal) (hReferenceIdeal := hReferenceIdeal) (hPre_pi_is_3021_Kernel := hPre_pi_is_3021_Kernel)
    ∧ algebraic_KernelIdeal_ReferenceIdeal_pre_pi_is_3102_Kernel (hKernelIdeal := hKernelIdeal) (hReferenceIdeal := hReferenceIdeal) (hPre_pi_is_3102_Kernel := hPre_pi_is_3102_Kernel)
    ∧ algebraic_KernelIdeal_ReferenceIdeal_pre_pi_is_3120_Kernel (hKernelIdeal := hKernelIdeal) (hReferenceIdeal := hReferenceIdeal) (hPre_pi_is_3120_Kernel := hPre_pi_is_3120_Kernel)
    ∧ algebraic_KernelIdeal_ReferenceIdeal_pre_pi_is_3201_Kernel (hKernelIdeal := hKernelIdeal) (hReferenceIdeal := hReferenceIdeal) (hPre_pi_is_3201_Kernel := hPre_pi_is_3201_Kernel)
    ∧ algebraic_KernelIdeal_ReferenceIdeal_pre_pi_is_3210_Kernel (hKernelIdeal := hKernelIdeal) (hReferenceIdeal := hReferenceIdeal) (hPre_pi_is_3210_Kernel := hPre_pi_is_3210_Kernel)
-- ==== Pre_pi_is_0123_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0123_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 1#32 | 2 => 2#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0132_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 1#32 | 2 => 3#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0213_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 2#32 | 2 => 1#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0231_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 2#32 | 2 => 3#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0312_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 3#32 | 2 => 1#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_0321_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 0#32 | 1 => 3#32 | 2 => 2#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1023_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 0#32 | 2 => 2#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1032_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 0#32 | 2 => 3#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1203_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 2#32 | 2 => 0#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1230_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 2#32 | 2 => 3#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1302_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 3#32 | 2 => 0#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_1320_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 1#32 | 1 => 3#32 | 2 => 2#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2013_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 0#32 | 2 => 1#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2031_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 0#32 | 2 => 3#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2103_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 1#32 | 2 => 0#32 | 3 => 3#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2130_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 1#32 | 2 => 3#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2301_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 3#32 | 2 => 0#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_2310_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 2#32 | 1 => 3#32 | 2 => 1#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3012_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 0#32 | 2 => 1#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3021_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 0#32 | 2 => 2#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3102_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 1#32 | 2 => 0#32 | 3 => 2#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3120_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 1#32 | 2 => 2#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3201_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 2#32 | 2 => 0#32 | 3 => 1#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_Kernel.lean ====
abbrev S1x512x512 : Shape := ⟨3, ![1, 512, 512]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S1x512x512 .f32) (main_arg1 : IVec S4 32) : IVec S4 1 :=
  let main_c : IVec S4 32 := fun i => lit0 (S4.rowMajor i)
  let main_v0 : IVec S4 1 := cmpi .eq main_arg1 main_c
  main_v0
-- ==== Pre_pi_is_3210_ReferenceIdeal.lean ====
abbrev S4x512x512 : Shape := ⟨3, ![4, 512, 512]⟩
abbrev S4 : Shape := ⟨1, ![4]⟩

class Facts : Prop where

variable [Facts]

noncomputable abbrev lit0 : Fin 4 → BitVec 32 := fun
  | 0 => 3#32 | 1 => 2#32 | 2 => 1#32 | 3 => 0#32
  | _ => 0#32

def fn {F : FTy → Type} [FloatOps F] (main_arg0 : FVec F S4x512x512 .f32) (main_arg1 : IVec S4 32) : IVec S4 1 :=
  let main_c : IVec S4 32 := fun i => lit0 (S4.rowMajor i)
  let main_v0 : IVec S4 1 := cmpi .eq main_arg1 main_c
  main_v0
-- ==== Kernel.lean ====
abbrev S1x512x512 : Shape := ⟨3, ![1, 512, 512]⟩
abbrev S4 : Shape := ⟨1, ![4]⟩
abbrev S512x512 : Shape := ⟨2, ![512, 512]⟩
abbrev S1 : Shape := ⟨1, ![1]⟩
abbrev S_ : Shape := ⟨0, ![]⟩
abbrev S128x512 : Shape := ⟨2, ![128, 512]⟩
abbrev S1x128x512 : Shape := ⟨3, ![1, 128, 512]⟩

abbrev nBuf : Space → Nat
  | .hbm => 3
  | .vmem => 4
  | .smem => 1
  | _ => 0

abbrev bufTy : (tb : Table) → Fin (tcTables nBuf tb) → BufTy
  | .hbm, ⟨0, _⟩ => ⟨S1x512x512, .f32⟩
  | .hbm, ⟨1, _⟩ => ⟨S4, .i32⟩
  | .hbm, ⟨2, _⟩ => ⟨S1x512x512, .f32⟩
  | .local _ .vmem, ⟨0, _⟩ => ⟨S1x512x512, .f32⟩
  | .local _ .vmem, ⟨1, _⟩ => ⟨S1x512x512, .f32⟩
  | .local _ .vmem, ⟨2, _⟩ => ⟨S512x512, .bf16⟩
  | .local _ .vmem, ⟨3, _⟩ => ⟨S512x512, .bf16⟩
  | .local _ .smem, ⟨0, _⟩ => ⟨S4, .i32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg2_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 1 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v9 : Index := Scalar.indexCast v8
  ![v9.toNat]
def k0_dev1 (d0 : Dev nD) (v11 : BitVec 32) (v14 : BitVec 32) (v17 : BitVec 32) : Nat :=
  let c0_i32_6 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_5 : BitVec 32 := 8#32
  let v21 : BitVec 32 := Scalar.muli v2 c8_i32_5
  let v22 : BitVec 32 := Scalar.addi c0_i32_6 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7 : BitVec 32 := 4#32
  let v23 : BitVec 32 := Scalar.muli v5 c4_i32_7
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v18 : BitVec 1 := Scalar.cmpi .eq v17 v8
  let c3_i32 : BitVec 32 := 3#32
  let v15 : BitVec 1 := Scalar.cmpi .eq v14 v8
  let c2_i32_3 : BitVec 32 := 2#32
  let v12 : BitVec 1 := Scalar.cmpi .eq v11 v8
  let c1_i32_2 : BitVec 32 := 1#32
  let c0_i32 : BitVec 32 := 0#32
  let v13 : BitVec 32 := Scalar.select v12 c1_i32_2 c0_i32
  let v16 : BitVec 32 := Scalar.select v15 c2_i32_3 v13
  let v19 : BitVec 32 := Scalar.select v18 c3_i32 v16
  let c1_i32_8 : BitVec 32 := 1#32
  let v25 : BitVec 32 := Scalar.muli v19 c1_i32_8
  let v26 : BitVec 32 := Scalar.addi v24 v25
  v26.toNat

def k0_chk1 (d0 : Dev nD) (v11 : BitVec 32) (v14 : BitVec 32) (v17 : BitVec 32) : Prop :=
  ((k0_dev1 d0 v11 v14 v17) < nD)
theorem k0_dev1_lt : ∀ (d0 : Dev nD) (v11 : BitVec 32) (v14 : BitVec 32) (v17 : BitVec 32) (k0_hw1 : k0_chk1 d0 v11 v14 v17), (k0_dev1 d0 v11 v14 v17) < nD := fun d0 v11 v14 v17 k0_hw1 => k0_hw1

def k0_dev2 (d0 : Dev nD) (v10 : BitVec 32) : Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_16 : BitVec 32 := 8#32
  let v33 : BitVec 32 := Scalar.muli v2 c8_i32_16
  let v34 : BitVec 32 := Scalar.addi c0_i32_17 v33
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_18 : BitVec 32 := 4#32
  let v35 : BitVec 32 := Scalar.muli v5 c4_i32_18
  let v36 : BitVec 32 := Scalar.addi v34 v35
  let c1_i32_19 : BitVec 32 := 1#32
  let v37 : BitVec 32 := Scalar.muli v10 c1_i32_19
  let v38 : BitVec 32 := Scalar.addi v36 v37
  v38.toNat

def k0_dev3 (d0 : Dev nD) (v10 : BitVec 32) : Nat :=
  let c0_i32_27 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_26 : BitVec 32 := 8#32
  let v45 : BitVec 32 := Scalar.muli v2 c8_i32_26
  let v46 : BitVec 32 := Scalar.addi c0_i32_27 v45
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_28 : BitVec 32 := 4#32
  let v47 : BitVec 32 := Scalar.muli v5 c4_i32_28
  let v48 : BitVec 32 := Scalar.addi v46 v47
  let c1_i32_29 : BitVec 32 := 1#32
  let v49 : BitVec 32 := Scalar.muli v10 c1_i32_29
  let v50 : BitVec 32 := Scalar.addi v48 v49
  v50.toNat
def k0_dev4 (d0 : Dev nD) (v10 : BitVec 32) : Nat :=
  let c0_i32_36 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_35 : BitVec 32 := 8#32
  let v57 : BitVec 32 := Scalar.muli v2 c8_i32_35
  let v58 : BitVec 32 := Scalar.addi c0_i32_36 v57
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_37 : BitVec 32 := 4#32
  let v59 : BitVec 32 := Scalar.muli v5 c4_i32_37
  let v60 : BitVec 32 := Scalar.addi v58 v59
  let c1_i32_38 : BitVec 32 := 1#32
  let v61 : BitVec 32 := Scalar.muli v10 c1_i32_38
  let v62 : BitVec 32 := Scalar.addi v60 v61
  v62.toNat
def k0_dev5 (d0 : Dev nD) (v10 : BitVec 32) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v69 : BitVec 32 := Scalar.muli v2 c8_i32_44
  let v70 : BitVec 32 := Scalar.addi c0_i32_45 v69
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_46 : BitVec 32 := 4#32
  let v71 : BitVec 32 := Scalar.muli v5 c4_i32_46
  let v72 : BitVec 32 := Scalar.addi v70 v71
  let c1_i32_47 : BitVec 32 := 1#32
  let v73 : BitVec 32 := Scalar.muli v10 c1_i32_47
  let v74 : BitVec 32 := Scalar.addi v72 v73
  v74.toNat

def k0_chk2 (d0 : Dev nD) (v10 : BitVec 32) : Prop :=
  ((k0_dev2 d0 v10) < nD) ∧
  ((k0_dev3 d0 v10) < nD) ∧
  ((k0_dev4 d0 v10) < nD) ∧
  ((k0_dev5 d0 v10) < nD)
theorem k0_dev2_lt : ∀ (d0 : Dev nD) (v10 : BitVec 32) (k0_hw2 : k0_chk2 d0 v10), (k0_dev2 d0 v10) < nD := fun d0 v10 k0_hw2 => k0_hw2.1
theorem k0_dev3_lt : ∀ (d0 : Dev nD) (v10 : BitVec 32) (k0_hw2 : k0_chk2 d0 v10), (k0_dev3 d0 v10) < nD := fun d0 v10 k0_hw2 => k0_hw2.2.1
theorem k0_dev4_lt : ∀ (d0 : Dev nD) (v10 : BitVec 32) (k0_hw2 : k0_chk2 d0 v10), (k0_dev4 d0 v10) < nD := fun d0 v10 k0_hw2 => k0_hw2.2.2.1
theorem k0_dev5_lt : ∀ (d0 : Dev nD) (v10 : BitVec 32) (k0_hw2 : k0_chk2 d0 v10), (k0_dev5 d0 v10) < nD := fun d0 v10 k0_hw2 => k0_hw2.2.2.2

abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x512x512 : Shape := ⟨3, ![4, 512, 512]⟩
abbrev S4 : Shape := ⟨1, ![4]⟩
abbrev S_ : Shape := ⟨0, ![]⟩
abbrev S4x1 : Shape := ⟨2, ![4, 1]⟩

abbrev nBuf : Space → Nat
  | .hbm => 14
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4, .i32⟩
  | .hbm, ⟨2, _⟩ => ⟨S4, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i1⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S4x1, .i32⟩
  | .hbm, ⟨13, _⟩ => ⟨S4x512x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Protocol.lean ====
/-
# 01_k — the cross-device protocol of the permuting send

The sixteen devices are numbered `8 x + 4 y + z`; a block moves along its line of four, from coordinate `z` to
coordinate `σ z`, where `σ` is the permutation the operand `pi` spells. Of device `c` write `dst c` for the device
it sends to and `src c` for the one it receives from.

Per device, the semaphores and what each landing hands to the waiting device:

* the barrier cell of `c`: ONE unit, signalled by `dst c` (whose `src` is `c`) before anything moves, waited for by `c`;
  it hands `c` the four chunks of `dst c`'s receive buffer, at any contents;
* receive cell `k` of `c`: the credit of one chunk, by the `k`-th copy of `src c`, waited for by `c`; it hands `c` chunk `k`
  of its own receive buffer holding chunk `k` of `src c`'s block rounded to bf16;
* send cell `k` of `c`: the credit of one chunk, by `c`'s own `k`-th copy, waited for by `c` at the end; it hands `c` its
  own send chunk `k` back, unchanged.

Order on a device: signal, wait barrier, four copies, wait receive `0 … 3`, wait send `0 … 3`. So a barrier wait happens
while the four receive credits of `dst c` are owed, and every later wait while nothing is owed: barrier cells at level 1,
receive cells at level 2 and everything else at level 0 rule out a cycle. `σ` may fix coordinates (a device then sends to itself).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The lines of the mesh -/

set_option backward.proofsInPublic true in
/-- A device's coordinate along its line. -/
def zOf (c : Dev nD) : Fin 4 := ⟨c.val % 4, Nat.mod_lt _ (by decide)⟩

set_option backward.proofsInPublic true in
/-- The device at coordinate `k` of `c`'s line. -/
def onLine (c : Dev nD) (k : Fin 4) : Dev nD :=
  ⟨c.val / 4 * 4 + k.val, by have h : c.val < 16 := c.isLt; have := k.isLt; show _ < 16; omega⟩

theorem zOf_onLine (c : Dev nD) (k : Fin 4) : zOf (onLine c k) = k := by
  refine Fin.ext ?_
  show (c.val / 4 * 4 + k.val) % 4 = k.val
  have := k.isLt
  omega

theorem onLine_onLine (c : Dev nD) (k j : Fin 4) : onLine (onLine c k) j = onLine c j := by
  refine Fin.ext ?_
  show (c.val / 4 * 4 + k.val) / 4 * 4 + j.val = c.val / 4 * 4 + j.val
  have := k.isLt
  omega

theorem onLine_zOf (c : Dev nD) : onLine c (zOf c) = c := by
  refine Fin.ext ?_
  show c.val / 4 * 4 + c.val % 4 = c.val
  omega

/-- Where device `c` sends, and where it receives from, under the permutation `σ` of the coordinates. -/
def dst (σ : Equiv.Perm (Fin 4)) (c : Dev nD) : Dev nD := onLine c (σ (zOf c))
def src (σ : Equiv.Perm (Fin 4)) (c : Dev nD) : Dev nD := onLine c (σ.symm (zOf c))

theorem src_dst (σ : Equiv.Perm (Fin 4)) (c : Dev nD) : src σ (dst σ c) = c := by
  unfold src dst; rw [zOf_onLine, onLine_onLine, Equiv.symm_apply_apply, onLine_zOf]
theorem dst_src (σ : Equiv.Perm (Fin 4)) (c : Dev nD) : dst σ (src σ c) = c := by
  unfold src dst; rw [zOf_onLine, onLine_onLine, Equiv.apply_symm_apply, onLine_zOf]

/-- The sends as one bijection of the devices. -/
def lineEquiv (σ : Equiv.Perm (Fin 4)) : Dev nD ≃ Dev nD := ⟨dst σ, src σ, src_dst σ, dst_src σ⟩

/-! ## The resource algebra: the staging pipeline's copy and this protocol's, both with one duty name -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (σ : Equiv.Perm (Fin 4))
variable (m : (ℓ : Loc nD τ sig) → Buf (Elt F) ℓ) (ρ : Dev nD → PrngReg)

/-- Memory at launch: any contents, every counter at zero, any generator registers. -/
def s₀ : MemSt nD τ sig (Elt F) := ⟨m, fun _ => 0, ρ⟩

/-! ## Memrefs, chunks and cells -/

abbrev xM : Memref sig .tc .vmem S1x512x512 .f32 := Memref.whole cc0_stg0_0
abbrev tM : Memref sig .tc .smem S4 .i32 := Memref.whole cc0_stg1_0
abbrev oM : Memref sig .tc .vmem S1x512x512 .f32 := Memref.whole cc0_stg2_0
abbrev sM : Memref sig .tc .vmem S512x512 .bf16 := Memref.whole cc0_scratch0
abbrev rM : Memref sig .tc .vmem S512x512 .bf16 := Memref.whole cc0_scratch1

theorem chunk_inb (k : Fin 4) : ∀ a, (![128 * k.val, 0] : Fin 2 → Nat) a + S128x512.size a ≤ S512x512.size a := by
  revert k; decide

/-- Rows `128 k … 128 k + 127`. -/
abbrev chunkR (k : Fin 4) : Rect S512x512 := Rect.unit (s := S512x512) ![128 * k.val, 0] S128x512.size (chunk_inb k)

abbrev sChunk (k : Fin 4) : Memref sig .tc .vmem S128x512 .bf16 := sM.slice (chunkR k) (fun _ => rfl)
abbrev rChunk (k : Fin 4) : Memref sig .tc .vmem S128x512 .bf16 := rM.slice (chunkR k) (fun _ => rfl)

/-- The runtime's barrier semaphore. -/
abbrev barS : Sem sig := (SemArray.scalar (sig.barrier 0 rfl) : Sems sig S_).sem

set_option backward.proofsInPublic true in
/-- The transfers' semaphores: `false` the send side's, `true` the receive side's, of copy `k`. -/
def xferS (b : Bool) (k : Fin 4) : DmaSem sig := ⟨(if b then 7 else 3) + k.val, by revert b k; decide⟩

abbrev barCell (c : Dev nD) : GSem nD τ sig := ((c : Thread nD τ), .reg barS)
abbrev xferCell (b : Bool) (c : Dev nD) (k : Fin 4) : GSem nD τ sig := ((c : Thread nD τ), .dma (xferS b k))
abbrev sendCell (c : Dev nD) (k : Fin 4) : GSem nD τ sig := xferCell false c k
abbrev recvCell (c : Dev nD) (k : Fin 4) : GSem nD τ sig := xferCell true c k

/-- The kernel's own semaphores, and with the barrier all those of the protocol. -/
abbrev osem (i : Bool × Fin 4) : SemLoc sig := .dma (xferS i.1 i.2)
abbrev csem : Unit ⊕ (Bool × Fin 4) → SemLoc sig := Sum.elim (fun _ => .reg barS) osem
abbrev cellAt (i : Dev nD × (Unit ⊕ (Bool × Fin 4))) : GSem nD τ sig := ((i.1 : Thread nD τ), csem i.2)

theorem csem_inj : Function.Injective csem := by decide
theorem ownSemFacts : Pipeline.OwnSemFacts cfg0.spec osem := by decide

/-- The credit of one chunk. -/
abbrev N : ℕ := (rChunk 0).view.dmaCredit
theorem N_pos : 0 < N := View.dmaCredit_pos _ (by decide)

/-! ## Contents -/

/-- Device `c`'s staged block of `x`, and its staged table. -/
def xstg (c : Dev nD) : (cc0_stg0_0 : Ref sig .tc).ty.Contents (Elt F) :=
  (win0_0.blk (0 : Fin 1)).view.read (Elt F) ((s₀ m ρ).mem ((c : Thread nD τ).loc main_arg0))
def tstg (c : Dev nD) : (cc0_stg1_0 : Ref sig .tc).ty.Contents (Elt F) :=
  (win0_1.blk (0 : Fin 1)).view.read (Elt F) ((s₀ m ρ).mem ((c : Thread nD τ).loc main_arg1))

/-- What `c` puts in its send buffer: its block in bf16. -/
def packed (c : Dev nD) : FVec F S512x512 .bf16 := k0_pay1 (xstg m ρ c)

/-- Chunk `k` of `c`'s send, of `c`'s receive buffer, at contents `f`. -/
def sendPts (c : Dev nD) (k : Fin 4) (f : Buf (Elt F) ((sChunk k).view.loc (c : Thread nD τ))) : sProp 𝕄 :=
  (sChunk k).view.loc (c : Thread nD τ) ↦[(sChunk k).view.set]{fullShare} f
def recvPts (c : Dev nD) (k : Fin 4) (f : Buf (Elt F) ((rChunk k).view.loc (c : Thread nD τ))) : sProp 𝕄 :=
  (rChunk k).view.loc (c : Thread nD τ) ↦[(rChunk k).view.set]{fullShare} f

omit [FloatOps F] in
instance sendPts_storable (c : Dev nD) (k f) : BI.Storable (upEmb : UEmb _ 𝕄) (sendPts (F := F) c k f) := by
  unfold sendPts; infer_instance
omit [FloatOps F] in
instance recvPts_storable (c : Dev nD) (k f) : BI.Storable (upEmb : UEmb _ 𝕄) (recvPts (F := F) c k f) := by
  unfold recvPts; infer_instance

theorem chunk_disjoint (k k' : Fin 4) (h : k ≠ k') : Disjoint (chunkR k).set (chunkR k').set :=
  Ring.lead_disjoint (s := S512x512) (0 : Fin 2) 128 (fun k : Fin 4 => ![128 * k.val, 0]) S128x512.size chunk_inb (fun _ => rfl) rfl k k' h
theorem chunk_cover : Finset.univ.biUnion (fun k : Fin 4 => (chunkR k).set) = Finset.univ :=
  Ring.lead_cover (s := S512x512) (0 : Fin 2) 128 (fun k : Fin 4 => ![128 * k.val, 0]) S128x512.size chunk_inb (fun _ => rfl)
    (fun b a h => by fin_cases a; · exact absurd rfl h
                     · rfl) rfl (fun a h => by fin_cases a; · exact absurd rfl h
                                               · rfl) rfl

theorem sChunk_set (k : Fin 4) : (sChunk k).view.set = (chunkR k).set := View.set_slice_whole _ _
theorem rChunk_set (k : Fin 4) : (rChunk k).view.set = (chunkR k).set := View.set_slice_whole _ _

omit [FloatOps F] in
/-- A buffer held whole is its four chunks. -/
theorem sendPts_split (c : Dev nD) (f : Buf (Elt F) ((c : Thread nD τ).loc cc0_scratch0)) :
    (((c : Thread nD τ).loc cc0_scratch0) ↦{fullShare} f : sProp 𝕄) = bigSep Finset.univ fun k => sendPts c k f := by
  rw [Ring.pointsTo_blocks (ℓ := (c : Thread nD τ).loc cc0_scratch0) (fun k : Fin 4 => (chunkR k).set) chunk_disjoint chunk_cover f]
  refine bigSep_congr fun k _ => ?_
  unfold sendPts; rw [sChunk_set]
omit [FloatOps F] in
theorem recvPts_split (c : Dev nD) (f : Buf (Elt F) ((c : Thread nD τ).loc cc0_scratch1)) :
    (((c : Thread nD τ).loc cc0_scratch1) ↦{fullShare} f : sProp 𝕄) = bigSep Finset.univ fun k => recvPts c k f := by
  rw [Ring.pointsTo_blocks (ℓ := (c : Thread nD τ).loc cc0_scratch1) (fun k : Fin 4 => (chunkR k).set) chunk_disjoint chunk_cover f]
  refine bigSep_congr fun k _ => ?_
  unfold recvPts; rw [rChunk_set]

/-! ## The schedule -/

/-- What the unit on `c`'s barrier hands over: the receive buffer `c` sends into. -/
def barPay (c : Dev nD) : sProp 𝕄 := bigSep Finset.univ fun k : Fin 4 => iprop(∃ f, recvPts (dst σ c) k f)
/-- What transfer `k`'s credit hands over on the send side (`false`) and on the receive side (`true`). -/
def xferPay : Bool → Dev nD → Fin 4 → sProp 𝕄
  | false, c, k => sendPts c k (packed m ρ c)
  | true, c, k => recvPts c k (packed m ρ (src σ c))

set_option backward.proofsInPublic true in
/-- Which copy a transfer semaphore belongs to. -/
def copyOf (q : DmaSem sig) : Fin 4 := ⟨(q.val - 3) % 4, Nat.mod_lt _ (by decide)⟩

/-- One round with one duty on every cell. -/
def sched : Rounds.Schedule (GSem nD τ sig) Unit 𝕄 where
  duties _ r := if r = 0 then {()} else ∅
  unitless _ := False
  amount g _ _ := match g.2 with
    | .reg _ => 1
    | .dma _ => N
  payload g _ _ := match g.2 with
    | .reg _ => barPay σ g.1.1
    | .dma q => xferPay σ m ρ (decide (7 ≤ q.val)) g.1.1 (copyOf q)
  amount_pos g _ _ _ := by
    rcases g with ⟨t, q | q⟩
    · exact Nat.one_pos
    · exact N_pos

instance sched_storable (g : GSem nD τ sig) (r : ℕ) (d : Unit) :
    BI.Storable (upEmb : UEmb _ 𝕄) ((sched (F := F) σ m ρ).payload g r d) := by
  rcases g with ⟨t, q | q⟩
  · show BI.Storable upEmb (barPay σ t.1)
    unfold barPay; infer_instance
  · show BI.Storable upEmb (xferPay σ m ρ (decide (7 ≤ q.val)) t.1 (copyOf q))
    cases decide (7 ≤ q.val)
    · show BI.Storable upEmb (sendPts _ _ _); infer_instance
    · show BI.Storable upEmb (recvPts _ _ _); infer_instance

theorem duties_now (g : GSem nD τ sig) : (sched (F := F) σ m ρ).duties g 0 = {()} := by
  dsimp only [sched]; exact if_pos rfl
theorem duty_mem (g : GSem nD τ sig) : () ∈ (sched (F := F) σ m ρ).duties g 0 := by
  rw [duties_now]; exact Finset.mem_singleton_self _
theorem duties_later (g : GSem nD τ sig) : ∀ r, 1 ≤ r → (sched (F := F) σ m ρ).duties g r = ∅ :=
  fun r hr => by dsimp only [sched]; exact if_neg (by omega)

theorem amount_bar (c : Dev nD) : (sched (F := F) σ m ρ).amount (barCell c) 0 () = 1 := rfl
theorem amount_xfer (b : Bool) (c : Dev nD) (k : Fin 4) : (sched (F := F) σ m ρ).amount (xferCell b c k) 0 () = N := rfl

theorem xfer_side (b : Bool) (k : Fin 4) : decide (7 ≤ (xferS b k).val) = b := by revert b k; decide
theorem xfer_copy (b : Bool) (k : Fin 4) : copyOf (xferS b k) = k := by revert b k; decide

theorem payload_bar (c : Dev nD) : (sched (F := F) σ m ρ).payload (barCell c) 0 () = barPay σ c := rfl
theorem payload_xfer (b : Bool) (c : Dev nD) (k : Fin 4) :
    (sched (F := F) σ m ρ).payload (xferCell b c k) 0 () = xferPay σ m ρ b c k := by
  show xferPay σ m ρ (decide (7 ≤ (xferS b k).val)) c (copyOf (xferS b k)) = _
  rw [xfer_side, xfer_copy]

theorem expect_eq (g : GSem nD τ sig) : (sched (F := F) σ m ρ).expect g 0 = (sched (F := F) σ m ρ).amount g 0 () := by
  unfold Schedule.expect Schedule.amountOf; rw [duties_now, Finset.sum_singleton]

/-- All that a round hands over is its one payload. -/
theorem rest_eq (g : GSem nD τ sig) :
    bigSep ((sched (F := F) σ m ρ).duties g 0 \ ∅) (fun d => (sched (F := F) σ m ρ).payload g 0 d) = (sched (F := F) σ m ρ).payload g 0 () := by
  rw [Finset.sdiff_empty, duties_now, bigSep_singleton]

/-! ## What is owed, and the levels -/

/-- What `c` still owes with the copies from `j` on to come: `dst c`'s receive credits. -/
def owedFrom (c : Dev nD) (j : ℕ) : CellTallies nD τ sig Unit :=
  ∑ k ∈ Finset.univ.filter (fun k : Fin 4 => j ≤ k.val), tallyAt (recvCell (dst σ c) k) () N
/-- At launch: those, and the unit on `src c`'s barrier. -/
def O₀ (c : Dev nD) : CellTallies nD τ sig Unit := owedFrom σ c 0 + tallyAt (barCell (src σ c)) () 1

theorem owedFrom_step (c : Dev nD) (k : Fin 4) :
    owedFrom σ c k.val = owedFrom σ c (k.val + 1) + tallyAt (recvCell (dst σ c) k) () N := by
  unfold owedFrom
  have h : (Finset.univ.filter fun k' : Fin 4 => k.val ≤ k'.val) = insert k (Finset.univ.filter fun k' : Fin 4 => k.val + 1 ≤ k'.val) := by
    revert k; decide
  rw [h, Finset.sum_insert (by simp), add_comm]

theorem owedFrom_end (c : Dev nD) : owedFrom σ c 4 = 0 := by
  unfold owedFrom
  rw [show (Finset.univ.filter fun k : Fin 4 => 4 ≤ k.val) = ∅ by decide, Finset.sum_empty]

def L (g : GSem nD τ sig) : Finset Unit := if g.1.2 = .tc then {()} else ∅
def lv (g : GSem nD τ sig) (_ : Unit) : ℕ := match g.2 with
  | .reg _ => 1
  | .dma q => if 7 ≤ q.val then 2 else 0

theorem L_of_ne (g : GSem nD τ sig) (h : g.1.2 ≠ .tc) : L g = ∅ := if_neg h
theorem L_tc (c : Dev nD) (sm : SemLoc sig) : () ∈ L ((c : Thread nD τ), sm) := by
  unfold L; rw [if_pos rfl]; exact Finset.mem_singleton_self _

theorem lv_bar (c : Dev nD) : lv (barCell c) () = 1 := rfl
theorem lv_recv (c : Dev nD) (k : Fin 4) : lv (recvCell c k) () = 2 := if_pos (by revert k; decide)

theorem owedFrom_pos {c : Dev nD} {j : ℕ} {g : GSem nD τ sig} {u : Unit} (h : 0 < owedFrom σ c j g u) :
    ∃ k, g = recvCell (dst σ c) k := by
  obtain ⟨k, -, hk⟩ := Pipeline.sum_pos_exists h
  exact ⟨k, (Pipeline.tallyAt_pos hk).1⟩
theorem O₀_pos {c : Dev nD} {g : GSem nD τ sig} {u : Unit} (h : 0 < O₀ σ c g u) :
    (∃ k, g = recvCell (dst σ c) k) ∨ g = barCell (src σ c) :=
  (Pipeline.add_pos_cases h).imp (owedFrom_pos σ) fun h => (Pipeline.tallyAt_pos h).1

omit [FloatOps F] in
/-- A staging cell may be waited for whatever of the protocol is owed. -/
theorem mayWait_stage (c : Dev nD) (q : DmaSem sig) (hq : ¬ 7 ≤ q.val) (O : CellTallies nD τ sig Unit) (hO : O = O₀ σ c ∨ O = 0) :
    (levAts L lv : sProp 𝕄) ⊢ MayWait (c : Thread nD τ) (.dma q) () O := by
  rcases hO with rfl | rfl
  · refine Pipeline.mayWait_of_levAts (L_tc c _) fun g u hg => ?_
    have hlow : lv ((c : Thread nD τ), .dma q) () = 0 := if_neg hq
    rw [hlow]
    rcases O₀_pos σ hg with ⟨k, rfl⟩ | rfl
    · exact ⟨L_tc _ _, by rw [lv_recv]; decide⟩
    · exact ⟨L_tc _ _, by rw [lv_bar]; decide⟩
  · rw [MayWait_zero]; iintro -; iempintro

omit [FloatOps F] in
/-- The barrier may be waited for while only receive credits are owed. -/
theorem mayWait_bar (c : Dev nD) (j : ℕ) : (levAts L lv : sProp 𝕄) ⊢ MayWait (c : Thread nD τ) (.reg barS) () (owedFrom σ c j) := by
  refine Pipeline.mayWait_of_levAts (L_tc c _) fun g u hg => ?_
  obtain ⟨k, rfl⟩ := owedFrom_pos σ hg
  exact ⟨L_tc _ _, by rw [lv_bar, lv_recv]; decide⟩

end Cert.Permute

end
-- ==== Proof.Table.lean ====
/-
# 01_k — the table of targets: what its words say, and which devices the kernel computes from them

The operand `pi` spells a permutation `σ` of the four coordinates: word `z` is `σ z`. The kernel reads its own word to
find where it sends, and words 1, 2, 3 to find which of them names its coordinate — none of them, then word 0 does.
-/
module

public import proofs.«01_k».proof.Proof.Protocol

@[expose] public section

noncomputable section

namespace Cert.Permute

open Cert.KernelIdeal Cert.KernelIdeal.Gen
open Idealize.ShloMosaic
open Idealize.ShloMosaic.TcCoe
open Idealize.SL Idealize.SL.RA Idealize.SL.BI

variable {F : FTy → Type} [FloatOps F]
variable (σ : Equiv.Perm (Fin 4))
variable (m : (ℓ : Loc nD τ sig) → Buf (Elt F) ℓ) (ρ : Dev nD → PrngReg)

/-- Coordinate `k` as the table's word. -/
abbrev wordOf (k : Fin 4) : BitVec 32 := BitVec.ofNat 32 k.val

/-- Every device's table spells `σ`. -/
def Spelled : Prop := ∀ (c : Dev nD) (i : S4.Idx), (m ((c : Thread nD τ).loc main_arg1) : S4.Idx → BitVec 32) i = wordOf (σ (i 0))

variable {σ m}

omit [FloatOps F] in
/-- The word at offset `z` of the staged table. -/
theorem word_at (h : Spelled σ m) (c : Dev nD) {off : Fin 1 → Nat} (inb : ∀ a, off a + S1.size a ≤ S4.size a) (z : Fin 4) (hz : off 0 = z.val) :
    ((tM.access (Rect.unit (s := S4) off S1.size inb) : View sig .tc _ _ _).read (Elt F) (tstg m ρ c) (Shape.Idx.first (s := S1) (numel1_S1.symm ▸ Nat.one_pos)) : BitVec 32)
      = wordOf (σ z) := by
  have hi : ∀ i : S4.Idx, (i 0).val = z.val → (m ((c : Thread nD τ).loc main_arg1) : S4.Idx → BitVec 32) i = wordOf (σ z) := fun i hi => by
    rw [h c i]; exact congrArg (fun k => wordOf (σ k)) (Fin.ext hi)
  refine hi _ ?_
  show 0 + 1 * (off 0 + 1 * (Shape.Idx.first (s := S1) (numel1_S1.symm ▸ Nat.one_pos) (0 : Fin 1)).val) = z.val
  have h0 : (Shape.Idx.first (s := S1) (numel1_S1.symm ▸ Nat.one_pos) (0 : Fin 1)).val < 1 := Fin.isLt _
  omega

/-! ## The computed devices -/

theorem target_words (c : Dev nD) (k : Fin 4) :
    k0_dev2 c (wordOf k) = (onLine c k).val ∧ k0_dev3 c (wordOf k) = (onLine c k).val
      ∧ k0_dev4 c (wordOf k) = (onLine c k).val ∧ k0_dev5 c (wordOf k) = (onLine c k).val := by
  revert c k; decide +kernel

/-- The four copies' targets pass the kernel's own check. -/
theorem target_ok (c : Dev nD) (k : Fin 4) : k0_chk2 c (wordOf k) := by
  obtain ⟨h2, h3, h4, h5⟩ := target_words c k
  exact ⟨h2 ▸ (onLine c k).isLt, h3 ▸ (onLine c k).isLt, h4 ▸ (onLine c k).isLt, h5 ▸ (onLine c k).isLt⟩

/-- The coordinate picked by the three comparisons with words `1, 2, 3`. -/
def pick (a b d z : Fin 4) : Fin 4 := if d = z then 3 else if b = z then 2 else if a = z then 1 else 0

theorem pick_eq (z : Fin 4) : pick (σ 1) (σ 2) (σ 3) z = σ.symm z := by
  obtain ⟨y, rfl⟩ := σ.surjective z
  rw [Equiv.symm_apply_apply]
  unfold pick
  simp only [σ.injective.eq_iff]
  revert y; decide

theorem source_words (c : Dev nD) (a b d : Fin 4) :
    k0_dev1 c (wordOf a) (wordOf b) (wordOf d) = (onLine c (pick a b d (zOf c))).val := by
  revert c a b d; decide +kernel

theorem source_ok (c : Dev nD) (a b d : Fin 4) : k0_chk1 c (wordOf a) (wordOf b) (wordOf d) := by
  unfold k0_chk1; rw [source_words]; exact (onLine c _).isLt

theorem source_check (c : Dev nD) {v w u : BitVec 32} {a b d : Fin 4} (hv : v = wordOf a) (hw : w = wordOf b) (hu : u = wordOf d) : k0_chk1 c v w u := by
  subst hv hw hu; exact source_ok c a b d

/-- The device signalled, whatever expressions the three words were read by. -/
theorem source_dev (c : Dev nD) {v w u : BitVec 32} (hv : v = wordOf (σ 1)) (hw : w = wordOf (σ 2)) (hu : u = wordOf (σ 3)) (h : k0_chk1 c v w u) :
    (⟨k0_dev1 c v w u, k0_dev1_lt c v w u h⟩ : Dev nD) = src σ c := by
  subst hv hw hu
  refine Fin.ext ?_
  show k0_dev1 c (wordOf (σ 1)) (wordOf (σ 2)) (wordOf (σ 3)) = _
  rw [source_words, pick_eq]; rfl

/-- The device each copy names is the target. -/
theorem target_dev (c : Dev nD) {w : BitVec 32} (hw : w = wordOf (σ (zOf c))) (h : k0_chk2 c w) :
    (⟨k0_dev2 c w, k0_dev2_lt c w h⟩ : Dev nD) = dst σ c ∧ (⟨k0_dev3 c w, k0_dev3_lt c w h⟩ : Dev nD) = dst σ c
      ∧ (⟨k0_dev4 c w, k0_dev4_lt c w h⟩ : Dev nD) = dst σ c ∧ (⟨k0_dev5 c w, k0_dev5_lt c w h⟩ : Dev nD) = dst σ c := by
  subst hw
  obtain ⟨h2, h3, h4, h5⟩ := target_words c (σ (zOf c))
  exact ⟨Fin.ext h2, Fin.ext h3, Fin.ext h4, Fin.ext h5⟩

end Cert.Permute

end
-- ==== Proof.Steps.lean ====
/-
# 01_k — the pieces the body repeats, once each at a symbolic copy number `k`

The body sends four chunks, takes four chunks in, and waits for its four sends. Each piece is proved for any `k`; the
program's own offsets, semaphores and device names enter as variables with an equation to their name in `Protocol`.
-/
module

public import proofs.«01_k».proof.Proof.Table
public import Idealize.ShloMosaic.Lib.Pipeline.Value

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4))
variable (m : (ℓ : Loc nD τ sig) → Buf (Elt F) ℓ) (ρ : Dev nD → PrngReg)

def 𝒱₀ : Variants := Variants.none

/-! ## The shared records: every cell's invariant, and that its round 0 is reached -/

abbrev Slots : Type := Dev nD × (Unit ⊕ (Bool × Fin 4))

def records (K : Slots → ℕ) : sProp 𝕄 :=
  iprop((bigSep Finset.univ fun i : Slots => cellInv ER (sched σ m ρ) (K i) (cellAt i))
    ∗ bigSep Finset.univ fun i : Slots => reached ER (cellAt i) 0)

instance records_persistent (K : Slots → ℕ) : BI.Persistent (records σ m ρ K) := by unfold records; infer_instance

theorem records_inv (K : Slots → ℕ) (i : Slots) : records σ m ρ K ⊢ cellInv ER (sched σ m ρ) (K i) (cellAt i) := by
  unfold records
  iintro ⟨H, -⟩
  iapply (show (bigSep Finset.univ fun i : Slots => (cellInv ER (sched σ m ρ) (K i) (cellAt i) : sProp 𝕄)) ⊢ cellInv ER (sched σ m ρ) (K i) (cellAt i) from
    bigSep_elim (Finset.mem_univ i)); iexact H
theorem records_reached (K : Slots → ℕ) (i : Slots) : records σ m ρ K ⊢ reached ER (cellAt i) 0 := by
  unfold records
  iintro ⟨-, H⟩
  iapply (show (bigSep Finset.univ fun i : Slots => (reached ER (cellAt i) 0 : sProp 𝕄)) ⊢ reached ER (cellAt i) 0 from
    bigSep_elim (Finset.mem_univ i)); iexact H

/-- What a core owes, whatever it has waited for. -/
def debt (c : Dev nD) (O : CellTallies nD τ sig Unit) : sProp 𝕄 := iprop(∃ W, owes (c : Thread nD τ) O W)

/-! ## The transfer's contents -/

omit [FloatOps F] in
/-- A chunk copied out of a buffer holds, in the receive buffer, what that buffer holds there. -/
theorem recvPts_landed (c : Dev nD) (k : Fin 4) (fd : Buf (Elt F) ((rChunk k).view.loc (c : Thread nD τ)))
    (v : (cc0_scratch0 : Ref sig .tc).ty.Contents (Elt F)) :
    (recvPts c k ((rChunk k).view.write (Elt F) fd ((sChunk k).view.read (Elt F) v) Finset.univ) : sProp 𝕄) = recvPts c k v := by
  unfold recvPts
  refine pointsTo_congr fun i hi => ?_
  obtain ⟨x, -, rfl⟩ := Finset.mem_map.mp hi
  rw [View.write_emb_of_mem _ _ (Finset.mem_univ x)]
  rfl

/-! ## The barrier: the unit out, and the unit in -/

/-- The signal to `src c`: it pays that cell's one duty with this device's receive buffer. -/
theorem signal_step (K : Slots → ℕ) (c n : Dev nD) (hn : n = src σ c)
    {α : Type} {Q : α → sProp 𝕄} {kont : PUnit → Prog (TpuEff nD τ sig (Elt F) Λ₀ .tc) α} :
    iprop(records σ m ρ K ∗ (∃ f, (c : Thread nD τ).loc cc0_scratch1 ↦{fullShare} f) ∗ debt c (O₀ σ c) ∗ dutyTok ER (barCell (src σ c)) 0 ())
      ⊢ iprop((debt c (owedFrom σ c 0) -∗ wp frame (wpE (defs₀ (F := F)) 𝒱₀ (c : Thread nD τ) none) Set.univ (kont ⟨⟩) Q)
          -∗ wp frame (wpE (defs₀ (F := F)) 𝒱₀ (c : Thread nD τ) none) Set.univ
              (.op (.semSignal (Dev.tc n) barS (1#32 : BitVec 32).toInt) kont) Q) := by
  subst hn
  rw [show (1#32 : BitVec 32).toInt = ((1 : ℕ) : Int) by decide]
  unfold debt
  iintro ⟨#HR, ⟨%f, Hr⟩, ⟨%W, Ho⟩, Ht⟩ Hk
  ihave #HI := (records_inv σ m ρ K (src σ c, .inl ())) $$ HR
  ihave #Hre := (records_reached σ m ρ K (src σ c, .inl ())) $$ HR
  have hpay : ((c : Thread nD τ).loc cc0_scratch1 ↦{fullShare} f : sProp 𝕄) ⊢ (sched (F := F) σ m ρ).payload (barCell (src σ c)) 0 () := by
    rw [payload_bar, recvPts_split]
    unfold barPay; rw [dst_src]
    have one : ∀ k : Fin 4, (recvPts c k f : sProp 𝕄) ⊢ iprop(∃ f, recvPts c k f) := fun k => by iintro H; iexists f; iexact H
    exact bigSep_mono fun k _ => one k
  iapply (Rounds.wp_signal 𝒱₀ ER (sched σ m ρ) (c : Thread nD τ) none (dst := (src σ c : Thread nD τ)) (κ := K (src σ c, .inl ()))
      (d := ()) (duty_mem σ m ρ _) (amount_bar σ m ρ (src σ c)) () (owedFrom σ c 0) rfl (W := W)) $$ [Hr Ho Ht]
  · isplitr; · iexact HI
    isplitl [Ho]; · iexact Ho
    isplitl [Ht]; · iexact Ht
    isplitl [Hr]; · iapply hpay; iexact Hr
    iexact Hre
  iintro Ho
  iapply Hk
  iexists W; iexact Ho

/-- The barrier wait: it hands over the buffer this device sends into, and the cell is closed. -/
theorem barrier_step (K : Slots → ℕ) (c : Dev nD)
    {α : Type} {Q : α → sProp 𝕄} {kont : PUnit → Prog (TpuEff nD τ sig (Elt F) Λ₀ .tc) α} :
    iprop(records σ m ρ K ∗ levAts L lv ∗ cred (tallyAt (barCell c) () 1) ∗ debt c (owedFrom σ c 0) ∗ atPos ER (barCell c) 0 ∅ 0)
      ⊢ iprop(((semVal (barCell c) 0 ∗ debt c (owedFrom σ c 0) ∗ barPay σ c)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.semWait barS (1#32 : BitVec 32).toInt) kont) Q) := by
  rw [show (1#32 : BitVec 32).toInt = ((1 : ℕ) : Int) by decide]
  unfold debt
  iintro ⟨#HR, #Hlev, Hc, ⟨%W, Ho⟩, Hat⟩ Hk
  ihave #HI := (records_inv σ m ρ K (c, .inl ())) $$ HR
  iapply (Rounds.wp_wait_rest_token 𝒱₀ ER (sched σ m ρ) (c : Thread nD τ) none (κ := K (c, .inl ()))
      (wpE_semWait_eq 𝒱₀ (c : Thread nD τ) none Set.univ) (Set.mem_univ _) () (O := owedFrom σ c 0) (W := W) (R := 0) (m := 0) (T := ∅)
      (by rw [expect_eq, amount_bar])) $$ [Hc Ho Hat]
  · isplitr; · iexact HI
    isplitl [Hc]; · iexact Hc
    isplitl [Ho]; · iexact Ho
    isplitr; · iapply (mayWait_bar σ c 0); iexact Hlev
    iexact Hat
  iintro ⟨Ho, Hat, -, Hpay⟩
  ihave Hp := (Entails.of_eq ((rest_eq σ m ρ (barCell c)).trans (payload_bar σ m ρ c))) $$ Hpay
  imod (Rounds.cell_close ER (sched σ m ρ) (Set.mem_univ (K (c, .inl ()))) (fun h => h) (R := 0 + 1) (duties_later σ m ρ (barCell c))) $$ [Hat] with Hz
  · isplitr; · iexact HI
    iexact Hat
  iapply Hk
  isplitl [Hz]; · iexact Hz
  isplitl [Ho]; · iexists _; iexact Ho
  iexact Hp

/-! ## One copy -/

theorem send_step (K : Slots → ℕ) (c n : Dev nD) (hn : n = dst σ c) (k : Fin 4) {off : Fin 2 → Nat} (hoff : off = ![128 * k.val, 0])
    {sS sV : DmaSem sig} (hS : sS = xferS false k) (hV : sV = xferS true k)
    {inb : ∀ a, off a + S128x512.size a ≤ S512x512.size a} {hsrc₁ hdst₁}
    {hsc : (rM.slice (Rect.unit (s := S512x512) off S128x512.size inb) hdst₁ : Memref sig (Dev.tc n : Thread nD τ).2.kind .vmem S128x512 .bf16).view.ref.isScScratch = false}
    {hsrc : (sM.slice (Rect.unit (s := S512x512) off S128x512.size inb) hsrc₁ : Memref sig .tc .vmem S128x512 .bf16).view.WordExact}
    {hdst : (rM.slice (Rect.unit (s := S512x512) off S128x512.size inb) hdst₁ : Memref sig .tc .vmem S128x512 .bf16).view.WordExact}
    {hsem : DmaTarget.Typed .vmem (.dma sV) (.remote (Dev.tc n : Thread nD τ) (rM.slice (Rect.unit (s := S512x512) off S128x512.size inb) hdst₁ : Memref sig .tc .vmem S128x512 .bf16) (.dma sS) hsc)}
    {α : Type} {Q : α → sProp 𝕄} {kont : PUnit → Prog (TpuEff nD τ sig (Elt F) Λ₀ .tc) α} :
    iprop(records σ m ρ K ∗ sendPts c k (packed m ρ c) ∗ (∃ f, recvPts (dst σ c) k f) ∗ debt c (owedFrom σ c k.val)
        ∗ dutyTok ER (sendCell c k) 0 () ∗ dutyTok ER (recvCell (dst σ c) k) 0 ())
      ⊢ iprop(((cred (tallyAt (sendCell c k) () N) ∗ debt c (owedFrom σ c (k.val + 1)))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sM.slice (Rect.unit (s := S512x512) off S128x512.size inb) hsrc₁)
                (.remote (Dev.tc n : Thread nD τ) (rM.slice (Rect.unit (s := S512x512) off S128x512.size inb) hdst₁) (.dma sS) hsc)
                (.dma sV) hsrc hdst hsem) kont) Q) := by
  subst hn hoff hS hV
  unfold debt
  iintro ⟨#HR, Hs, ⟨%fd, Hr⟩, ⟨%W, Ho⟩, HtS, HtV⟩ Hk
  ihave #HIs := (records_inv σ m ρ K (c, .inr (false, k))) $$ HR
  ihave #HIr := (records_inv σ m ρ K (dst σ c, .inr (true, k))) $$ HR
  ihave #Hrs := (records_reached σ m ρ K (c, .inr (false, k))) $$ HR
  ihave #Hrr := (records_reached σ m ρ K (dst σ c, .inr (true, k))) $$ HR
  have hpayS : (sendPts c k (packed m ρ c) : sProp 𝕄) ⊢ (sched (F := F) σ m ρ).payload (sendCell c k) 0 () := by
    rw [payload_xfer]; exact BI.Entails.refl _
  have hpayR : (recvPts (dst σ c) k ((rChunk k).view.write (Elt F) fd ((sChunk k).view.read (Elt F) (packed m ρ c)) Finset.univ) : sProp 𝕄)
      ⊢ (sched (F := F) σ m ρ).payload (recvCell (dst σ c) k) 0 () := by
    rw [payload_xfer, recvPts_landed]
    show _ ⊢ recvPts (dst σ c) k (packed m ρ (src σ (dst σ c)))
    rw [src_dst]
  unfold sendPts at hpayS ⊢
  unfold recvPts at hpayR ⊢
  iapply (Rounds.wp_send_pointsTo 𝒱₀ ER (sched σ m ρ) (c : Thread nD τ) none (κ₁ := K (c, .inr (false, k))) (κ₂ := K (dst σ c, .inr (true, k)))
    (r₁ := 0) (r₂ := 0) (d₁ := ()) (d₂ := ()) (fd := fd) (duty_mem σ m ρ _) (duty_mem σ m ρ _) () () N rfl
    (amount_xfer σ m ρ false c k) (amount_xfer σ m ρ true (dst σ c) k) (owedFrom σ c (k.val + 1)) (owedFrom_step σ c k) (W := W) hpayS hpayR)
    $$ [Hs Hr Ho HtS HtV]
  · isplitr; · iexact HIs
    isplitr; · iexact HIr
    isplitl [Hs]; · iexact Hs
    isplitl [Hr]; · iexact Hr
    isplitl [Ho]; · iexact Ho
    isplitl [HtS]; · iexact HtS
    isplitr; · iexact Hrs
    isplitl [HtV]; · iexact HtV
    iexact Hrr
  iintro ⟨Hc, Ho⟩
  iapply Hk
  isplitl [Hc]; · iexact Hc
  iexists W; iexact Ho

/-! ## One wait for a transfer: the payload and, the cell closed, its counter -/

theorem wait_step (K : Slots → ℕ) (c : Dev nD) (b : Bool) (k : Fin 4) {sm : DmaSem sig} (hsm : sm = xferS b k)
    {mS mD : Memref sig .tc .vmem S128x512 .bf16} (hN : mD.view.dmaCredit = N) {hs hd}
    {α : Type} {Q : α → sProp 𝕄} {kont : PUnit → Prog (TpuEff nD τ sig (Elt F) Λ₀ .tc) α} :
    iprop(records σ m ρ K ∗ cred (tallyAt (xferCell b c k) () N) ∗ debt c 0 ∗ atPos ER (xferCell b c k) 0 ∅ 0)
      ⊢ iprop(((semVal (xferCell b c k) 0 ∗ debt c 0 ∗ xferPay σ m ρ b c k)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 sm mS mD hs hd) kont) Q) := by
  subst hsm
  unfold debt
  iintro ⟨#HR, Hc, ⟨%W, Ho⟩, Hat⟩ Hk
  ihave #HI := (records_inv σ m ρ K (c, .inr (b, k))) $$ HR
  iapply (Rounds.wp_wait_rest_token 𝒱₀ ER (sched σ m ρ) (c : Thread nD τ) none (κ := K (c, .inr (b, k)))
      (wpE_waitDma2_eq 𝒱₀ (c : Thread nD τ) none Set.univ) (Set.mem_univ _) () (O := 0) (W := W) (R := 0) (m := 0) (T := ∅)
      (by rw [Nat.zero_add, expect_eq, amount_xfer, hN])) $$ [Hc Ho Hat]
  · isplitr; · iexact HI
    isplitl [Hc]; · rw [hN]; iexact Hc
    isplitl [Ho]; · iexact Ho
    isplitr; · rw [MayWait_zero]; iempintro
    iexact Hat
  iintro ⟨Ho, Hat, -, Hpay⟩
  ihave Hp := (Entails.of_eq ((rest_eq σ m ρ (xferCell b c k)).trans (payload_xfer σ m ρ b c k))) $$ Hpay
  imod (Rounds.cell_close ER (sched σ m ρ) (Set.mem_univ (K (c, .inr (b, k)))) (fun h => h) (R := 0 + 1) (duties_later σ m ρ (xferCell b c k))) $$ [Hat] with Hz
  · isplitr; · iexact HI
    iexact Hat
  iapply Hk
  isplitl [Hz]; · iexact Hz
  isplitl [Ho]; · iexists _; iexact Ho
  iexact Hp

/-! ## The result, a chunk of rows at a time -/

/-- The result block of device `c`: the block it receives, back in f32. -/
def outAt (c : Dev nD) : (cc0_stg2_0 : Ref sig .tc).ty.Contents (Elt F) :=
  shapeCast S1x512x512 (extf .f32 (packed m ρ (src σ c)) bitsLt_bf16_f32) (by decide)

/-- The rows before `j` of a result buffer are the result's. -/
def Done (c : Dev nD) (j : ℕ) (g : (cc0_stg2_0 : Ref sig .tc).ty.Contents (Elt F)) : Prop :=
  ∀ i : S1x512x512.Idx, (i 1).val < j → (g : S1x512x512.Idx → Elt F .f32) i = (outAt σ m ρ c : S1x512x512.Idx → Elt F .f32) i

theorem Done.all {c : Dev nD} {g} (h : Done σ m ρ c 512 g) : g = outAt σ m ρ c :=
  funext fun i => h i (i 1).isLt

theorem rows_inb (k : Fin 4) : ∀ a, (![0, 128 * k.val, 0] : Fin 3 → Nat) a + S1x128x512.size a ≤ S1x512x512.size a := by
  revert k; decide

/-- Storing chunk `k` extends the finished rows by 128. -/
theorem Done.store {c : Dev nD} {k : Fin 4} {g} (h : Done σ m ρ c (128 * k.val) g)
    (inb : ∀ a, (![0, 128 * k.val, 0] : Fin 3 → Nat) a + S1x128x512.size a ≤ S1x512x512.size a)
    (inb' : ∀ a, (![128 * k.val, 0] : Fin 2 → Nat) a + S128x512.size a ≤ S512x512.size a) :
    Done σ m ρ c (128 * (k.val + 1))
      ((oM.access (Rect.unit (s := S1x512x512) ![0, 128 * k.val, 0] S1x128x512.size inb)).write (Elt F) g
        (k0_pay2 ((rM.view).readAt (Elt F) (Rect.unit (s := S512x512) ![128 * k.val, 0] S128x512.size inb').toLoadRect (packed m ρ (src σ c)))) Finset.univ) := by
  intro i hi
  by_cases hin : i ∈ (Rect.unit (s := S1x512x512) ![0, 128 * k.val, 0] S1x128x512.size inb).set
  · rw [← Rect.map_emb_univ] at hin
    obtain ⟨x, -, rfl⟩ := Finset.mem_map.mp hin
    refine (View.write_emb_of_mem (v := oM.access (Rect.unit (s := S1x512x512) ![0, 128 * k.val, 0] S1x128x512.size inb)) g _ (Finset.mem_univ x)).trans ?_
    show shapeCast S1x128x512 (extf .f32 _ bitsLt_bf16_f32) shapeCasts_S128x512_S1x128x512 x = shapeCast S1x512x512 (extf .f32 (packed m ρ (src σ c)) bitsLt_bf16_f32) _ _
    refine (shapeCast_addUnit_apply ![128, 512] _ _ x).trans (Eq.trans ?_ (shapeCast_addUnit_apply ![512, 512] _ _ _).symm)
    show FloatOps.extf .f32 bitsLt_bf16_f32 (packed m ρ (src σ c) _) = FloatOps.extf .f32 bitsLt_bf16_f32 (packed m ρ (src σ c) _)
    refine congrArg (fun y => FloatOps.extf .f32 bitsLt_bf16_f32 (packed m ρ (src σ c) y)) (funext fun a => ?_)
    fin_cases a <;> rfl
  · have hout : i ∉ (oM.access (Rect.unit (s := S1x512x512) ![0, 128 * k.val, 0] S1x128x512.size inb)).setOn Finset.univ := by
      rw [View.setOn_univ, View.set_slice_whole]; exact hin
    refine (View.write_of_not_mem _ _ _ hout).trans (h i ?_)
    by_contra hge
    refine hin (Rect.mem_set_unit.mpr fun a => ?_)
    fin_cases a
    · exact ⟨Nat.zero_le _, (i 0).isLt⟩
    · exact ⟨Nat.not_lt.mp hge, show (i 1).val < 128 * k.val + 128 by omega⟩
    · exact ⟨Nat.zero_le _, (i 2).isLt⟩

/-- One chunk taken in: wait for it, load it, store it in f32 (the load of the rows it overwrites is dropped). -/
theorem take_step (K : Slots → ℕ) (c : Dev nD) (k : Fin 4) {sm : DmaSem sig} (hsm : sm = xferS true k)
    {mS mD : Memref sig .tc .vmem S128x512 .bf16} (hN : mD.view.dmaCredit = N) {hs hd}
    {off : Fin 2 → Nat} (hoff : off = ![128 * k.val, 0]) {inb : ∀ a, off a + S128x512.size a ≤ S512x512.size a}
    {off' : Fin 3 → Nat} (hoff' : off' = ![0, 128 * k.val, 0]) {inb' : ∀ a, off' a + S1x128x512.size a ≤ S1x512x512.size a}
    (pay : Vec F S128x512 .bf16 → FVec F S1x128x512 .f32) (hpay : pay = k0_pay2) {hl hl' hx hm}
    {α : Type} {Q : α → sProp 𝕄} {kont : PUnit → Prog (TpuEff nD τ sig (Elt F) Λ₀ .tc) α} :
    iprop(records σ m ρ K ∗ cred (tallyAt (recvCell c k) () N) ∗ debt c 0 ∗ atPos ER (recvCell c k) 0 ∅ 0
        ∗ ∃ g : (cc0_stg2_0 : Ref sig .tc).ty.Contents (Elt F), ⌜Done σ m ρ c (128 * k.val) g⌝ ∗ ((c : Thread nD τ).loc cc0_stg2_0 ↦{fullShare} g))
      ⊢ iprop(((semVal (recvCell c k) 0 ∗ debt c 0 ∗ recvPts c k (packed m ρ (src σ c))
              ∗ ∃ g : (cc0_stg2_0 : Ref sig .tc).ty.Contents (Elt F), ⌜Done σ m ρ c (128 * (k.val + 1)) g⌝ ∗ ((c : Thread nD τ).loc cc0_stg2_0 ↦{fullShare} g))
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.waitDma2 sm mS mD hs hd) fun _ =>
                .op (.load rM (Rect.unit (s := S512x512) off S128x512.size inb).toLoadRect hl) fun v =>
                .op (.load oM (Rect.unit (s := S1x512x512) off' S1x128x512.size inb').toLoadRect hl') fun _ =>
                .op (.store oM (Rect.unit (s := S1x512x512) off' S1x128x512.size inb') (pay v) Finset.univ hx hm) kont) Q) := by
  subst hoff hoff' hpay
  iintro ⟨#HR, Hc, Ho, Hat, ⟨%g, %hg, Hout⟩⟩ Hk
  iapply (wait_step σ m ρ K c true k hsm hN) $$ [Hc Ho Hat]
  · isplitr; · iexact HR
    isplitl [Hc]; · iexact Hc
    isplitl [Ho] <;> iassumption
  iintro ⟨Hz, Ho, Hr⟩
  unfold xferPay recvPts
  iapply (wp_load 𝒱₀ (c : Thread nD τ) none Set.univ (m := rM) (Finset.subset_of_eq (View.set_slice rM.view (chunkR k)).symm)) $$ Hr; iintro Hr
  iapply (wp_load 𝒱₀ (c : Thread nD τ) none Set.univ (m := oM) (Finset.subset_univ _)) $$ Hout; iintro Hout
  iapply (wp_store 𝒱₀ (c : Thread nD τ) none Set.univ (m := oM) (r := Rect.unit (s := S1x512x512) ![0, 128 * k.val, 0] S1x128x512.size inb') (Mk := Finset.univ) (Finset.subset_univ _)) $$ Hout; iintro Hout
  iapply Hk
  isplitl [Hz]; · iexact Hz
  isplitl [Ho]; · iexact Ho
  isplitl [Hr]; · iexact Hr
  iexists _
  isplitr; · ipureintro; exact hg.store σ m ρ inb' inb
  iexact Hout

end Cert.Permute

end
-- ==== Proof.Body.lean ====
/-
# 01_k — the body at one symbolic device

Contents run through the whole proof: the windows' arrays, the send buffer and each landing are stated with what they hold.
-/
module

public import proofs.«01_k».proof.Proof.Steps

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4))
variable (m : (ℓ : Loc nD τ sig) → Buf (Elt F) ℓ) (ρ : Dev nD → PrngReg)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_two (Φ : Bool → sProp 𝕄) : bigSep Finset.univ Φ = iprop(Φ false ∗ Φ true) :=
  bigSep_univ_eq_bigSepL [false, true] (by decide) (by decide) Φ

omit [FloatOps F] in
/-- Over both sides of the four transfers: the send side's four and the receive side's four. -/
theorem bigSep_xfer (Φ : Bool × Fin 4 → sProp 𝕄) :
    bigSep Finset.univ Φ = iprop((bigSep Finset.univ fun k => Φ (false, k)) ∗ bigSep Finset.univ fun k => Φ (true, k)) := by
  rw [bigSep_univ_prod, bigSep_two]

/-! ## What a device starts with -/

/-- Its positions at its own cells, and the tokens of the duties IT pays. -/
def holds (c : Dev nD) : sProp 𝕄 :=
  iprop(atPos ER (barCell c) 0 ∅ 0 ∗ (bigSep Finset.univ fun k => atPos ER (sendCell c k) 0 ∅ 0) ∗ (bigSep Finset.univ fun k => atPos ER (recvCell c k) 0 ∅ 0)
    ∗ dutyTok ER (barCell (src σ c)) 0 () ∗ (bigSep Finset.univ fun k => dutyTok ER (sendCell c k) 0 ())
    ∗ bigSep Finset.univ fun k => dutyTok ER (recvCell (dst σ c) k) 0 ())

/-- The credits of the cells others raise, and the levels. -/
def dealt (c : Dev nD) : sProp 𝕄 :=
  iprop(cred (tallyAt (barCell c) () 1) ∗ (bigSep Finset.univ fun k => cred (tallyAt (recvCell c k) () N)) ∗ levAts L lv)

def begins (c : Dev nD) : sProp 𝕄 := iprop((∃ K, records σ m ρ K ∗ holds σ c) ∗ dealt c)

/-- Before the body: that, and the two scratch buffers at any contents. -/
def Φ₀ (c : Dev nD) : sProp 𝕄 :=
  iprop(begins σ m ρ c ∗ (∃ f, (c : Thread nD τ).loc cc0_scratch0 ↦{fullShare} f) ∗ ∃ f, (c : Thread nD τ).loc cc0_scratch1 ↦{fullShare} f)

/-- After it: the send buffer holds the device's block, the receive buffer the one received; every counter is at zero. -/
def Φ₁ (c : Dev nD) : sProp 𝕄 :=
  iprop(((c : Thread nD τ).loc cc0_scratch0 ↦{fullShare} (packed m ρ c)) ∗ ((c : Thread nD τ).loc cc0_scratch1 ↦{fullShare} (packed m ρ (src σ c)))
    ∗ semVal (barCell c) 0 ∗ (bigSep Finset.univ fun k => semVal (sendCell c k) 0) ∗ bigSep Finset.univ fun k => semVal (recvCell c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => outAt σ m ρ c
    | ⟨_ + 3, h⟩ => absurd h (Nat.not_lt.2 (Nat.le_add_left _ _))
  Φ t := match t with
    | ⟨0, _⟩ => Φ₀ σ m ρ c
    | ⟨_ + 1, _⟩ => Φ₁ σ m ρ c
  q _ := fullShare
  owed t := match t with
    | ⟨0, _⟩ => O₀ σ c
    | ⟨_ + 1, _⟩ => 0

theorem fetched_x (t : Fin cfg0.N) : (cfg0.win (0 : Fin 3)).fetch t = true := by rw [fin_N0 t]; rfl
theorem fetched_t (t : Fin cfg0.N) : (cfg0.win (1 : Fin 3)).fetch t = true := by rw [fin_N0 t]; rfl

theorem owns_whole (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ ((c : Thread nD τ).loc b ↦{fullShare} f)) := by
  unfold owns
  simp only [Memref.view_whole, View.read_whole, View.set_whole]

/-! ## The body -/

abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def bodyPre (c : Dev nD) : sProp 𝕄 :=
  iprop(Φ₀ σ m ρ c ∗ (dats σ m ρ 0 c).owesAt () t0_0.castSucc
    ∗ (∃ d, stg c cc0_stg0_0 ((dats σ m ρ 0 c).before (0 : Fin 3) t0_0 d))
    ∗ (∃ d, stg c cc0_stg1_0 ((dats σ m ρ 0 c).before (1 : Fin 3) t0_0 d))
    ∗ (∃ d, stg c cc0_stg2_0 ((dats σ m ρ 0 c).before (2 : Fin 3) t0_0 d)))

def bodyPost (c : Dev nD) : sProp 𝕄 :=
  iprop(Φ₁ σ m ρ c ∗ (dats σ m ρ 0 c).owesAt () t0_0.succ
    ∗ stg c cc0_stg0_0 (xstg m ρ c) ∗ stg c cc0_stg1_0 (tstg m ρ c) ∗ stg c cc0_stg2_0 (outAt σ m ρ c))

theorem zero₂ : (![0, 0] : Fin 2 → Nat) = fun _ => 0 := funext fun a => by fin_cases a <;> rfl
theorem zero₃ : (![0, 0, 0] : Fin 3 → Nat) = fun _ => 0 := funext fun a => by fin_cases a <;> rfl

variable {σ m}

omit [FloatOps F] in
theorem debt_intro (c : Dev nD) (O : CellTallies nD τ sig Unit) (W : Waits sig Unit) : (owes (c : Thread nD τ) O W : sProp 𝕄) ⊢ debt c O := by
  unfold debt; iintro H; iexists W; iexact H

/-- What the store leaves in the send buffer, chunk by chunk. -/
theorem stored (c : Dev nD) (f : Buf (Elt F) ((c : Thread nD τ).loc cc0_scratch0)) :
    ((c : Thread nD τ).loc cc0_scratch0 ↦{fullShare} ((sM.access (Rect.unit (s := S512x512) ![0, 0] S512x512.size inb_S512x512_S512x512_0_0)).write (Elt F) f
        (k0_pay1 (xM.view.readAt (Elt F) (Rect.unit (s := S1x512x512) ![0, 0, 0] S1x512x512.size inb_S1x512x512_S1x512x512_0_0_0).toLoadRect (xstg m ρ c))) Finset.univ) : sProp 𝕄)
      = bigSep Finset.univ fun k => sendPts c k (packed m ρ c) := by
  have e : (sM.access (Rect.unit (s := S512x512) ![0, 0] S512x512.size inb_S512x512_S512x512_0_0)).write (Elt F) f
        (k0_pay1 (xM.view.readAt (Elt F) (Rect.unit (s := S1x512x512) ![0, 0, 0] S1x512x512.size inb_S1x512x512_S1x512x512_0_0_0).toLoadRect (xstg m ρ c))) Finset.univ
      = packed m ρ c :=
    (Memref.write_access_unit_zero_univ (Elt F) cc0_scratch0 zero₂ inb_S512x512_S512x512_0_0 f _).trans
      (congrArg k0_pay1 (Memref.readAt_unit_zero (Elt F) cc0_stg0_0 zero₃ inb_S1x512x512_S1x512x512_0_0_0 (xstg m ρ c)))
  rw [e]
  exact sendPts_split c (packed m ρ c)

variable (σ) in
/-- Before the first store no row is claimed. -/
theorem nothing_done (c : Dev nD) (g : (cc0_stg2_0 : Ref sig .tc).ty.Contents (Elt F)) :
    ((c : Thread nD τ).loc cc0_stg2_0 ↦{fullShare} g : sProp 𝕄)
      ⊢ iprop(∃ g : (cc0_stg2_0 : Ref sig .tc).ty.Contents (Elt F), ⌜Done σ m ρ c (128 * (0 : Fin 4).val) g⌝ ∗ ((c : Thread nD τ).loc cc0_stg2_0 ↦{fullShare} g)) := by
  iintro H
  iexists g
  isplitr; · ipureintro; exact fun i hi => absurd hi (Nat.not_lt_zero _)
  iexact H

set_option maxRecDepth 8000 in
set_option maxHeartbeats 4000000 in
/-- Symbolic execution of the body, one rule per effect in program order. -/
theorem sound_body (hσ : Spelled σ m) (c : Dev nD) :
    bodyPre σ m ρ c ⊢ wp frame (wpE (defs₀ (F := F)) 𝒱₀ (c : Thread nD τ) none) Set.univ
      (cc0_body (F := F) (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) cc0_scratch2 cc0_scratch3) (fun _ => bodyPost σ m ρ c) := by
  simp only [cc0_body_eq_skeleton, k0_part1_eq_skeleton, k0_part2_eq_skeleton, k0_part3_eq_skeleton, k0_part4_eq_skeleton, k0_part5_eq_skeleton]
  unfold cc0_body_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, smemLoad, smemLoadElt, Prog.lift, Prog.bind_op, Prog.bind_ret, Prog.pure_eq_ret, Prog.bind_assoc, wp_deviceId]
  unfold bodyPre Φ₀ begins holds dealt
  simp only [bigSep_four]
  iintro ⟨⟨⟨⟨%K, #HR, HaB, ⟨HaS0, HaS1, HaS2, HaS3⟩, ⟨HaV0, HaV1, HaV2, HaV3⟩, HtB, ⟨HtS0, HtS1, HtS2, HtS3⟩, ⟨HtV0, HtV1, HtV2, HtV3⟩⟩,
    HcB, ⟨HcV0, HcV1, HcV2, HcV3⟩, #Hlev⟩, ⟨%fs, Hs⟩, ⟨%fr, Hr⟩⟩, Ho, ⟨%d0, %g0, %hg0, Hx⟩, ⟨%d1, %g1, %hg1, Ht⟩, ⟨%d2, %g2, %hg2, Hout⟩⟩
  have hx : g0 = xstg m ρ c := by rw [hg0]; unfold Dat.before; rw [if_pos (fetched_x t0_0)]; rfl
  have ht : g1 = tstg m ρ c := by rw [hg1]; unfold Dat.before; rw [if_pos (fetched_t t0_0)]; rfl
  subst hx ht
  unfold Dat.owesAt Pipeline.owesWithin
  icases Ho with ⟨%W, %hW, HO⟩
  rw [show (dats σ m ρ 0 c).owed t0_0.castSucc = O₀ σ c from rfl]
  ihave Ho := (debt_intro c (O₀ σ c) W) $$ HO
  -- the table's words: the device's own, then words 1, 2 and 3; the kernel's two checks pass
  have hw0 := word_at ρ hσ c (k0_off1_inb c) (zOf c) (congrFun (k0_off1_eq c) 0)
  have hw1 := word_at ρ hσ c inb_S4_S1_1 1 rfl
  have hw2 := word_at ρ hσ c inb_S4_S1_2 2 rfl
  have hw3 := word_at ρ hσ c inb_S4_S1_3 3 rfl
  have hchk2 := (congrArg (k0_chk2 c) hw0).mpr (target_ok c (σ (zOf c)))
  have hchk1 := source_check c hw1 hw2 hw3
  obtain ⟨hd0, hd1, hd2, hd3⟩ := target_dev c hw0 hchk2
  iapply (wp_load_rect 𝒱₀ (c : Thread nD τ) none Set.univ (m := tM) (r := Rect.unit (s := S4) (k0_off1 c) S1.size (k0_off1_inb c)) (Finset.subset_univ _)) $$ Ht; iintro Ht
  simp only [wp_assume_of _ _ _ _ (d := k0_chk2.dec _ _) hchk2]
  iapply (wp_load_rect 𝒱₀ (c : Thread nD τ) none Set.univ (m := tM) (r := Rect.unit (s := S4) ![1] S1.size inb_S4_S1_1) (Finset.subset_univ _)) $$ Ht; iintro Ht
  iapply (wp_load_rect 𝒱₀ (c : Thread nD τ) none Set.univ (m := tM) (r := Rect.unit (s := S4) ![2] S1.size inb_S4_S1_2) (Finset.subset_univ _)) $$ Ht; iintro Ht
  iapply (wp_load_rect 𝒱₀ (c : Thread nD τ) none Set.univ (m := tM) (r := Rect.unit (s := S4) ![3] S1.size inb_S4_S1_3) (Finset.subset_univ _)) $$ Ht; iintro Ht
  simp only [wp_assume_of _ _ _ _ (d := k0_chk1.dec _ _ _ _) hchk1]
  -- the signal to `src c`: it may fill this device's receive buffer
  iapply (signal_step σ m ρ K c _ (source_dev c hw1 hw2 hw3 hchk1)) $$ [Hr Ho HtB]
  · isplitr; · iexact HR
    isplitl [Hr]; · iexists fr; iexact Hr
    isplitl [Ho] <;> iassumption
  iintro Ho
  -- the block, rounded, into the send buffer
  iapply (wp_load 𝒱₀ (c : Thread nD τ) none Set.univ (m := xM) (Finset.subset_univ _)) $$ Hx; iintro Hx
  iapply (wp_load 𝒱₀ (c : Thread nD τ) none Set.univ (m := sM) (Finset.subset_univ _)) $$ Hs; iintro Hs
  iapply (wp_store 𝒱₀ (c : Thread nD τ) none Set.univ (m := sM) (r := Rect.unit (s := S512x512) ![0, 0] S512x512.size inb_S512x512_S512x512_0_0) (Mk := Finset.univ) (Finset.subset_univ _)) $$ Hs; iintro Hs
  -- the barrier: `dst c`'s receive buffer is this device's to fill
  iapply (barrier_step σ m ρ K c) $$ [HcB Ho HaB]
  · isplitr; · iexact HR
    isplitr; · iexact Hlev
    isplitl [HcB]; · iexact HcB
    isplitl [Ho] <;> iassumption
  iintro ⟨HzB, Ho, Hdst⟩
  unfold barPay
  simp only [bigSep_four]
  icases Hdst with ⟨Hd0, Hd1, Hd2, Hd3⟩
  ihave Hs' := (Entails.of_eq ((stored ρ c fs).trans (bigSep_four _))) $$ Hs
  icases Hs' with ⟨Hs0, Hs1, Hs2, Hs3⟩
  -- the four copies
  iapply (send_step σ m ρ K c _ hd0 0 rfl rfl rfl) $$ [Hs0 Hd0 Ho HtS0 HtV0]
  · isplitr; · iexact HR
    isplitl [Hs0]; · iexact Hs0
    isplitl [Hd0]; · iexact Hd0
    isplitl [Ho]; · iexact Ho
    isplitl [HtS0] <;> iassumption
  iintro ⟨HcS0, Ho⟩
  iapply (send_step σ m ρ K c _ hd1 1 rfl rfl rfl) $$ [Hs1 Hd1 Ho HtS1 HtV1]
  · isplitr; · iexact HR
    isplitl [Hs1]; · iexact Hs1
    isplitl [Hd1]; · iexact Hd1
    isplitl [Ho]; · iexact Ho
    isplitl [HtS1] <;> iassumption
  iintro ⟨HcS1, Ho⟩
  iapply (send_step σ m ρ K c _ hd2 2 rfl rfl rfl) $$ [Hs2 Hd2 Ho HtS2 HtV2]
  · isplitr; · iexact HR
    isplitl [Hs2]; · iexact Hs2
    isplitl [Hd2]; · iexact Hd2
    isplitl [Ho]; · iexact Ho
    isplitl [HtS2] <;> iassumption
  iintro ⟨HcS2, Ho⟩
  iapply (send_step σ m ρ K c _ hd3 3 rfl rfl rfl) $$ [Hs3 Hd3 Ho HtS3 HtV3]
  · isplitr; · iexact HR
    isplitl [Hs3]; · iexact Hs3
    isplitl [Hd3]; · iexact Hd3
    isplitl [Ho]; · iexact Ho
    isplitl [HtS3] <;> iassumption
  iintro ⟨HcS3, Ho⟩
  ihave Ho := (Entails.of_eq (congrArg (debt (F := F) c) (show owedFrom σ c ((3 : Fin 4).val + 1) = 0 from owedFrom_end σ c))) $$ Ho
  -- the four chunks in: each waited for, loaded, and stored in f32
  ihave Hout := (nothing_done σ ρ c g2) $$ Hout
  iapply (take_step σ m ρ K c 0 (mS := sChunk 0) (mD := rChunk 0) rfl rfl rfl rfl _ rfl) $$ [HcV0 Ho HaV0 Hout]
  · isplitr; · iexact HR
    isplitl [HcV0]; · iexact HcV0
    isplitl [Ho]; · iexact Ho
    isplitl [HaV0] <;> iassumption
  iintro ⟨HzV0, Ho, Hr0, Hout⟩
  iapply (take_step σ m ρ K c 1 (mS := sChunk 1) (mD := rChunk 1) rfl rfl rfl rfl _ rfl) $$ [HcV1 Ho HaV1 Hout]
  · isplitr; · iexact HR
    isplitl [HcV1]; · iexact HcV1
    isplitl [Ho]; · iexact Ho
    isplitl [HaV1] <;> iassumption
  iintro ⟨HzV1, Ho, Hr1, Hout⟩
  iapply (take_step σ m ρ K c 2 (mS := sChunk 2) (mD := rChunk 2) rfl rfl rfl rfl _ rfl) $$ [HcV2 Ho HaV2 Hout]
  · isplitr; · iexact HR
    isplitl [HcV2]; · iexact HcV2
    isplitl [Ho]; · iexact Ho
    isplitl [HaV2] <;> iassumption
  iintro ⟨HzV2, Ho, Hr2, Hout⟩
  iapply (take_step σ m ρ K c 3 (mS := sChunk 3) (mD := rChunk 3) rfl rfl rfl rfl _ rfl) $$ [HcV3 Ho HaV3 Hout]
  · isplitr; · iexact HR
    isplitl [HcV3]; · iexact HcV3
    isplitl [Ho]; · iexact Ho
    isplitl [HaV3] <;> iassumption
  iintro ⟨HzV3, Ho, Hr3, Hout⟩
  -- the four sends drained
  iapply (wait_step σ m ρ K c false 0 (mS := rChunk 0) (mD := sChunk 0) rfl rfl) $$ [HcS0 Ho HaS0]
  · isplitr; · iexact HR
    isplitl [HcS0]; · iexact HcS0
    isplitl [Ho] <;> iassumption
  iintro ⟨HzS0, Ho, Hs0⟩
  iapply (wait_step σ m ρ K c false 1 (mS := rChunk 1) (mD := sChunk 1) rfl rfl) $$ [HcS1 Ho HaS1]
  · isplitr; · iexact HR
    isplitl [HcS1]; · iexact HcS1
    isplitl [Ho] <;> iassumption
  iintro ⟨HzS1, Ho, Hs1⟩
  iapply (wait_step σ m ρ K c false 2 (mS := rChunk 2) (mD := sChunk 2) rfl rfl) $$ [HcS2 Ho HaS2]
  · isplitr; · iexact HR
    isplitl [HcS2]; · iexact HcS2
    isplitl [Ho] <;> iassumption
  iintro ⟨HzS2, Ho, Hs2⟩
  iapply (wait_step σ m ρ K c false 3 (mS := rChunk 3) (mD := sChunk 3) rfl rfl) $$ [HcS3 Ho HaS3]
  · isplitr; · iexact HR
    isplitl [HcS3]; · iexact HcS3
    isplitl [Ho] <;> iassumption
  iintro ⟨HzS3, Ho, Hs3⟩
  rw [wp_ret]; imodintro
  icases Hout with ⟨%g, %hg, Hout⟩
  have hall := Done.all (σ := σ) (m := m) (ρ := ρ) hg
  subst hall
  unfold bodyPost Φ₁ Dat.owesAt Pipeline.owesWithin debt
  rw [sendPts_split c (packed m ρ c), recvPts_split c (packed m ρ (src σ c))]
  simp only [bigSep_four]
  icases Ho with ⟨%W', Ho⟩
  isplitl [Hs0 Hs1 Hs2 Hs3 Hr0 Hr1 Hr2 Hr3 HzB HzS0 HzS1 HzS2 HzS3 HzV0 HzV1 HzV2 HzV3]
  · isplitl [Hs0 Hs1 Hs2 Hs3]
    · unfold xferPay
      isplitl [Hs0]; · iexact Hs0
      isplitl [Hs1]; · iexact Hs1
      isplitl [Hs2]; · iexact Hs2
      iexact Hs3
    isplitl [Hr0 Hr1 Hr2 Hr3]
    · isplitl [Hr0]; · iexact Hr0
      isplitl [Hr1]; · iexact Hr1
      isplitl [Hr2]; · iexact Hr2
      iexact Hr3
    isplitl [HzB]; · iexact HzB
    isplitl [HzS0 HzS1 HzS2 HzS3]
    · isplitl [HzS0]; · iexact HzS0
      isplitl [HzS1]; · iexact HzS1
      isplitl [HzS2]; · iexact HzS2
      iexact HzS3
    isplitl [HzV0]; · iexact HzV0
    isplitl [HzV1]; · iexact HzV1
    isplitl [HzV2]; · iexact HzV2
    iexact HzV3
  isplitl [Ho]
  · iexists W'
    isplitr; · ipureintro; exact fun _ _ => Or.inl trivial
    iexact Ho
  isplitl [Hx]
  · iexists _
    isplitr; · ipureintro; exact rfl
    iexact Hx
  isplitl [Ht]
  · iexists _
    isplitr; · ipureintro; exact rfl
    iexact Ht
  iexists _
  isplitr; · ipureintro; exact rfl
  iexact Hout

/-- The library's body obligation. -/
theorem body_obligation (hσ : Spelled σ m) (c : Dev nD) :
    BodyObligation (dats σ m ρ 0 c) (defs₀ (F := F)) 𝒱₀ () Set.univ := by
  intro t
  rw [fin_N0 t]
  rw [bigSep_W0, bigSep_W0]
  simp only [owns_whole]
  show bodyPre σ m ρ c ⊢ wp frame (wpE (defs₀ (F := F)) 𝒱₀ (c : Thread nD τ) none) Set.univ
      (cc0_body (F := F) (Memref.whole cc0_stg0_0) (Memref.isWhole_whole _) (Memref.whole cc0_stg1_0) (Memref.isWhole_whole _)
        (Memref.whole cc0_stg2_0) (Memref.isWhole_whole _) (Memref.whole cc0_scratch0) (Memref.isWhole_whole _)
        (Memref.whole cc0_scratch1) (Memref.isWhole_whole _) cc0_scratch2 cc0_scratch3) (fun _ => bodyPost σ m ρ c)
  exact sound_body ρ hσ c

end Cert.Permute

end
-- ==== Proof.Launch.lean ====
/-
# 01_k — the launch: the cells of all sixteen devices funded, their tokens dealt along the lines, and the run of `@main`
-/
module

public import proofs.«01_k».proof.Proof.Body
public import Idealize.ShloMosaic.Lib.Pipeline.CollectiveSegs

@[expose] public section

noncomputable section

namespace Cert.Permute

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (σ : Equiv.Perm (Fin 4))
variable (m : (ℓ : Loc nD τ sig) → Buf (Elt F) ℓ) (ρ : Dev nD → PrngReg)

/-! ## One cell per slot, one token per cell -/

theorem cellAt_inj : Function.Injective (cellAt : Slots → GSem nD τ sig) := by
  rintro ⟨c, i⟩ ⟨c', i'⟩ h
  obtain rfl : c = c' := congrArg (fun g : GSem nD τ sig => g.1.1) h
  obtain rfl : i = i' := csem_inj (congrArg Prod.snd h)
  rfl

def protoCells : Finset (GSem nD τ sig) := Finset.univ.map ⟨cellAt, cellAt_inj⟩
def protoToks : Finset (GSem nD τ sig × ℕ × Unit) :=
  Finset.univ.map ⟨fun i : Slots => (cellAt i, 0, ()), fun _ _ h => cellAt_inj (congrArg Prod.fst h)⟩

def u₀ : UU := (initOf (Pipeline.cells cfgs cellOf_inj) (Pipeline.launchToks cfgs cellOf_inj), initOf protoCells protoToks)

omit [FloatOps F] in
/-- A family over the slots, device by device: its barrier's, its four send cells', its four receive cells'. -/
theorem bigSep_device (Φ : Unit ⊕ (Bool × Fin 4) → sProp 𝕄) :
    bigSep Finset.univ Φ = iprop(Φ (.inl ()) ∗ (bigSep Finset.univ fun k => Φ (.inr (false, k))) ∗ bigSep Finset.univ fun k => Φ (.inr (true, k))) := by
  rw [bigSep_univ_sum, bigSep_xfer, bigSep_univ_eq_bigSepL [()] (by decide) (by decide)]
  rfl

omit [FloatOps F] in
theorem bigSep_slots (Φ : Slots → sProp 𝕄) :
    bigSep Finset.univ Φ = iprop((bigSep Finset.univ fun c : Dev nD => Φ (c, .inl ()))
      ∗ (bigSep Finset.univ fun c : Dev nD => bigSep Finset.univ fun k => Φ (c, .inr (false, k)))
      ∗ bigSep Finset.univ fun c : Dev nD => bigSep Finset.univ fun k => Φ (c, .inr (true, k))) := by
  rw [bigSep_univ_prod]
  simp only [bigSep_device]
  rw [bigSep_sep', bigSep_sep']

/-! ## Funding -/

/-- What the launch element gives for one cell. -/
def minted (i : Slots) : sProp 𝕄 :=
  iprop(roundState ER (sched σ m ρ) (cellAt i) 0 ∗ atPos ER (cellAt i) 0 ∅ 0 ∗ reached ER (cellAt i) 0 ∗ dutyTok ER (cellAt i) 0 ())

/-- For one device. -/
def G (c : Dev nD) : sProp 𝕄 := bigSep Finset.univ fun i => minted σ m ρ (c, i)

theorem fund_cells : BI.own (ER (initOf protoCells protoToks)) ⊢ (|==> bigSep Finset.univ (G σ m ρ) : sProp 𝕄) := by
  have hX (Φ : GSem nD τ sig → sProp 𝕄) : bigSep protoCells Φ = bigSep Finset.univ fun i : Slots => Φ (cellAt i) := by
    unfold protoCells; rw [bigSep_map]; rfl
  have hT : bigSep protoToks (fun x => (dutyTok ER x.1 x.2.1 x.2.2 : sProp 𝕄)) = bigSep Finset.univ fun i : Slots => dutyTok ER (cellAt i) 0 () := by
    unfold protoToks; rw [bigSep_map]; rfl
  have hG : bigSep Finset.univ (G σ m ρ) = bigSep Finset.univ (minted (F := F) σ m ρ) := (bigSep_univ_prod _).symm
  rw [hG]
  iintro HX
  imod (Rounds.fund ER (sched σ m ρ) protoCells protoToks) $$ HX with ⟨Hst, Hr, Hat, Htok⟩
  imodintro
  ihave Hst' := (Entails.of_eq (hX fun g => roundState ER (sched σ m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold minted
  simp only [bigSep_sep']
  isplitl [Hst']; · iexact Hst'
  isplitl [Hat']; · iexact Hat'
  isplitl [Hr'] <;> iassumption

/-! ## Every device's counters put under invariants, the tokens dealt along the lines -/

omit [FloatOps F] in
theorem unscopedSems0_bar (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_xfer (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ bigSep Finset.univ fun k => semVal (recvCell c k) 0) := by
  unfold Pipeline.ownSems0; rw [bigSep_xfer]

omit [FloatOps F] in
theorem counters_eq (c : Dev nD) :
    iprop(Pipeline.ownSems0 (Ix := Unit) (Name := ℕ) (U := UU) (Lvl := ℕ) (Val := Elt F) (τ := τ) osem c ∗ unscopedSems0 c)
      ⊢ (bigSep Finset.univ fun i => semVal (cellAt (c, i)) 0 : sProp 𝕄) := by
  rw [ownSems0_xfer, unscopedSems0_bar, bigSep_device]
  iintro ⟨⟨HS, HV⟩, HB⟩
  isplitl [HB]; · iexact HB
  isplitl [HS]; · iexact HS
  iexact HV

/-- One cell with its invariant allocated. -/
def settled (i : Slots) : sProp 𝕄 :=
  iprop((∃ κ : ℕ, cellInv ER (sched σ m ρ) κ (cellAt i)) ∗ atPos ER (cellAt i) 0 ∅ 0 ∗ reached ER (cellAt i) 0 ∗ dutyTok ER (cellAt i) 0 ())

theorem settle (i : Slots) : iprop(semVal (cellAt i) 0 ∗ minted σ m ρ i) ⊢ (|={Set.univ}=> settled σ m ρ i : sProp 𝕄) := by
  unfold minted settled
  iintro ⟨Hv, Hst, Hrest⟩
  imod ((Rounds.body_intro ER (sched σ m ρ) (cellAt i)).trans inv_alloc) $$ [Hv Hst] with Hinv
  · isplitl [Hv] <;> iassumption
  imodintro
  isplitl [Hinv] <;> iassumption

theorem settle_device (c : Dev nD) :
    iprop(Pipeline.ownSems0 (Ix := Unit) (Name := ℕ) (U := UU) (Lvl := ℕ) (Val := Elt F) (τ := τ) osem c ∗ unscopedSems0 c ∗ G σ m ρ c)
      ⊢ (|={Set.univ}=> bigSep Finset.univ fun i => settled σ m ρ (c, i) : sProp 𝕄) := by
  have h : iprop((bigSep Finset.univ fun i => semVal (cellAt (c, i)) 0) ∗ G σ m ρ c)
      ⊢ (|={Set.univ}=> bigSep Finset.univ fun i => settled σ m ρ (c, i) : sProp 𝕄) := by
    unfold G
    rw [← bigSep_sep']
    exact (bigSep_mono fun i _ => settle σ m ρ (c, i)).trans (bigSep_fupd _ _)
  iintro ⟨Ho, Hu, HG⟩
  iapply h
  isplitl [Ho Hu]
  · iapply (counters_eq (F := F) c); isplitl [Ho] <;> iassumption
  iexact HG

/-- What the global step leaves with a device: the shared records, its positions, the tokens of the duties it pays. -/
def G' (c : Dev nD) : sProp 𝕄 := iprop(∃ K, records σ m ρ K ∗ holds σ c)

omit [FloatOps F] in
/-- Positions stay; a barrier's token goes to the device that signals it, a receive cell's to the device that sends there. -/
theorem dealt_around :
    iprop((bigSep Finset.univ fun i : Slots => atPos ER (cellAt i) 0 ∅ 0) ∗ bigSep Finset.univ fun i : Slots => dutyTok ER (cellAt i) 0 ())
      ⊢ (bigSep Finset.univ fun c : Dev nD => holds σ c : sProp 𝕄) := by
  unfold holds
  rw [bigSep_sep', bigSep_sep', bigSep_sep', bigSep_sep', bigSep_sep', bigSep_slots, bigSep_slots,
    bigSep_univ_equiv (lineEquiv σ).symm (fun c : Dev nD => (dutyTok ER (cellAt (c, .inl ())) 0 () : sProp 𝕄)),
    bigSep_univ_equiv (lineEquiv σ) (fun c : Dev nD => (bigSep Finset.univ fun k => dutyTok ER (cellAt (c, .inr (true, k))) 0 () : sProp 𝕄))]
  iintro ⟨⟨HaB, HaS, HaV⟩, HtB, HtS, HtV⟩
  isplitl [HaB]; · iexact HaB
  isplitl [HaS]; · iexact HaS
  isplitl [HaV]; · iexact HaV
  isplitl [HtB]; · iexact HtB
  isplitl [HtS]; · iexact HtS
  iexact HtV

theorem regroup : (bigSep Finset.univ fun i : Slots => settled σ m ρ i : sProp 𝕄) ⊢ bigSep Finset.univ (G' σ m ρ) := by
  have each (K : Slots → ℕ) (c : Dev nD) : iprop(records σ m ρ K ∗ holds σ c) ⊢ G' σ m ρ c := by
    unfold G'; iintro H; iexists K; iexact H
  have all (K : Slots → ℕ) : iprop(records σ m ρ K ∗ bigSep Finset.univ fun c : Dev nD => holds σ c) ⊢ bigSep Finset.univ (G' σ m ρ) :=
    (sep_mono_left (BI.bigSep_of_persistent Finset.univ (records σ m ρ K))).trans (by rw [← bigSep_sep']; exact bigSep_mono fun c _ => each K c)
  unfold settled
  rw [bigSep_sep', bigSep_sep', bigSep_sep']
  iintro ⟨HI, Hat, #HR, Htok⟩
  ihave HK := (BI.bigSep_exists_pi Finset.univ (fun (i : Slots) (κ : ℕ) => (cellInv ER (sched σ m ρ) κ (cellAt i) : sProp 𝕄))) $$ HI
  icases HK with ⟨%K, #HI⟩
  iapply (all K)
  isplitr
  · unfold records; isplitl; · iexact HI
    iexact HR
  iapply (dealt_around (F := F) σ)
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G σ m ρ c) : sProp 𝕄)
    ⊢ |={Set.univ}=> bigSep Finset.univ (G' σ m ρ) :=
  ((bigSep_mono fun c _ => settle_device σ m ρ c).trans (bigSep_fupd _ _)).trans
    (BI.fupd_mono ((Entails.of_eq (bigSep_univ_prod _).symm).trans (regroup σ m ρ)))

/-! ## The launch's credit -/

omit [FloatOps F] in
theorem launch_credit (c : Dev nD) :
    (Pipeline.launchCred (O₀ σ) c : sProp 𝕄)
      ⊢ iprop(cred (tallyAt (barCell c) () 1) ∗ bigSep Finset.univ fun k => cred (tallyAt (recvCell c k) () N)) := by
  have h : O₀ σ = fun d => (∑ k ∈ Finset.univ.filter (fun k : Fin 4 => 0 ≤ k.val), tallyAt (recvCell (dst σ d) k) () N) + tallyAt (barCell (src σ d)) () 1 := rfl
  rw [h, Pipeline.launchCred_add, Pipeline.launchCred_sum _ (fun k d => tallyAt (recvCell (dst σ d) k) () N),
    show (Finset.univ.filter fun k : Fin 4 => 0 ≤ k.val) = Finset.univ by decide]
  iintro ⟨HV, HB⟩
  isplitl [HB]
  · iapply (Pipeline.launchCred_tallyAt (SemLoc.reg barS) (src σ) (dst σ) (src_dst σ) (dst_src σ) () 1 c); iexact HB
  have each : (bigSep Finset.univ fun k => Pipeline.launchCred (fun d => tallyAt (recvCell (dst σ d) k) () N) c : sProp 𝕄)
      ⊢ bigSep Finset.univ fun k => cred (tallyAt (recvCell c k) () N) :=
    bigSep_mono fun k _ => Pipeline.launchCred_tallyAt (SemLoc.dma (xferS true k)) (dst σ) (src σ) (dst_src σ) (src_dst σ) () N c
  iapply each; iexact HV

/-! ## The launch theorem's side conditions -/

theorem share_eq (c : Dev nD) (w : Fin cfg0.W) : (dats σ m ρ 0 c).share w = fullShare := by unfold Dat.share; split <;> rfl

theorem begins_intro (c : Dev nD) :
    iprop(Pipeline.unscopedRestP Pipeline.Prefetch.none cfg0.spec c (fun b => m ((c : Thread nD τ).loc b)) ∗ levAts L lv
        ∗ Pipeline.launchCred (O₀ σ) c ∗ prngReg c (ρ c) ∗ G' σ m ρ c)
      ⊢ |={Set.univ}=> iprop(begins σ m ρ c ∗ emp) := by
  iintro ⟨-, Hlev, Hcr, -, HG⟩
  ihave Hc := (launch_credit (F := F) σ c) $$ Hcr
  icases Hc with ⟨HB, HV⟩
  imodintro
  unfold begins dealt G'
  isplitl
  · isplitl [HG]; · iexact HG
    isplitl [HB]; · iexact HB
    isplitl [HV] <;> iassumption
  · iempintro

theorem enter (c : Dev nD) :
    iprop(begins σ m ρ c ∗ Pipeline.prefHeld Pipeline.Prefetch.none c (fun _ => fullShare.right) (fun k => k.elim0) ∗ Pipeline.scopedRest cfg0.spec c)
      ⊢ (dats σ m ρ 0 c).Φ 0 := by
  rw [show (dats σ m ρ 0 c).Φ 0 = Φ₀ σ m ρ c from rfl, scopedRest0_eq]
  unfold Φ₀
  iintro ⟨Hs, -, Hr⟩
  isplitl [Hs]; · iexact Hs
  iexact Hr

theorem leave (c : Dev nD) :
    (dats σ m ρ 0 c).Φ (Fin.last cfg0.N) ⊢ iprop(unscopedSems0 c ∗ Pipeline.ownSems0 osem c ∗ Pipeline.scopedRest cfg0.spec c) := by
  rw [show (dats σ m ρ 0 c).Φ (Fin.last cfg0.N) = Φ₁ σ m ρ c from rfl, scopedRest0_eq, ownSems0_xfer, unscopedSems0_bar]
  unfold Φ₁
  iintro ⟨Hs, Hr, HzB, HzS, HzV⟩
  isplitl [HzB]; · iexact HzB
  isplitl [HzS HzV]
  · isplitl [HzS] <;> iassumption
  isplitl [Hs]
  · iexists (packed m ρ c); iexact Hs
  iexists (packed m ρ (src σ c)); iexact Hr

theorem waits (c : Dev nD) : (levAts L lv : sProp 𝕄) ⊢ Pipeline.cellsWaits cfgs (dats σ m ρ) () 0 c :=
  Pipeline.cellsWaits_intro cfgs (dats σ m ρ) () 0 c fun w s t =>
    mayWait_stage σ c _ (by fin_cases w <;> fin_cases s <;> decide) _ (by
      rcases t with ⟨_ | _, ht⟩
      · exact Or.inl rfl
      · exact Or.inr rfl)

/-! ## The run -/

/-- The windows' arrays when the pipeline is over. -/
def finalA (c : Dev nD) (w : Fin cfg0.W) : Buf (Elt F) ((cfg0.win w).arr.view.loc (c : Thread nD τ)) := (dats σ m ρ 0 c).arrAt w cfg0.N

def ends : PUnit × MemSt nD τ sig (Elt F) → Prop := fun r =>
  ∀ c : Dev nD, ∀ w : Fin cfg0.W, r.2.mem ((cfg0.win w).arr.view.loc (c : Thread nD τ)) = finalA σ m ρ c w

variable {σ m}

set_option maxRecDepth 8000 in
/-- From any memory whose tables spell `σ`, with every counter at zero: every weakly fair execution of `@main` on the sixteen
    devices terminates, with each window's array at `finalA` and every counter at zero. -/
theorem run_main (hσ : Spelled σ m) :
    θ_run defs (onTc (τ := τ) (main (F := F))) (s₀ m ρ) (fun r => ends σ m ρ r ∧ r.2.sem = fun _ => 0) :=
  Pipeline.θ_run_region_owing_glob_pf (fun p => (cfgs p).toPCfg) (fun p => (cfgs p).toPCfg_adm) (dats σ m ρ) () cellOf_inj (0 : Fin 1)
    winFacts0.to₀ ownSemFacts (Pipeline.PreFacts.none _) EP defs₀ 𝒱₀ m ρ main
    (hmain := fun _ => rfl)
    (hbody := body_obligation ρ hσ) (hne := fun w => by fin_cases w <;> exact Nat.succ_pos _) (harr := arr_whole0) (hstage := stage_whole0)
    (hshare := share_eq σ m ρ) (hdistinct := winFacts0.arr_inj)
    (O₀ := O₀ σ) (howed₀ := fun _ => rfl) (howedN := fun _ => rfl)
    (L := L) (lv := lv) (hL := L_of_ne) (hwaits := waits σ m ρ)
    (G := G σ m ρ) (G' := G' σ m ρ) (u₀ := u₀)
    (hu₀ := by
      unfold u₀
      iintro Hu
      ihave H := (ownU_pair _ _) $$ Hu
      icases H with ⟨HP, HX⟩
      imod (fund_cells σ m ρ) $$ HX with HG
      imodintro
      isplitl [HP] <;> iassumption)
    (hglob := glob σ m ρ)
    (hA := fun _ _ => rfl) (hpf := fun _ k => k.elim0)
    (X := begins σ m ρ) (Y := fun c => unscopedSems0 c) (Z := fun _ => iprop(emp))
    (hX := begins_intro σ m ρ) (hin := enter σ m ρ) (hout := leave σ m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Permute

end
-- ==== Proof.Value.lean ====
/-
# 01_k — the arrays after the run: the arguments as launched, the result the block received
-/
module

public import proofs.«01_k».proof.Proof.Launch
public import proofs.«01_k».proof.Proof.Gen.KernelIdeal.Points
public import Idealize.ShloMosaic.Lib.Pipeline.Value
public import Idealize.ShloMosaic.PureOps.Ideal

@[expose] public section

noncomputable section

namespace Cert.Permute

open Cert.KernelIdeal Cert.KernelIdeal.Gen
open Idealize.ShloMosaic
open Idealize.ShloMosaic.TcCoe
open Idealize.SL Idealize.SL.Sem
open Idealize.ShloMosaic.Pipeline (Dat)

variable {F : FTy → Type} [FloatOps F]
variable (σ : Equiv.Perm (Fin 4))
variable (m : (ℓ : Loc nD τ sig) → Buf (Elt F) ℓ) (ρ : Dev nD → PrngReg)

theorem final_x (c : Dev nD) : finalA σ m ρ c (0 : Fin 3) = m ((c : Thread nD τ).loc main_arg0) := (dats σ m ρ 0 c).arrAt_in (0 : Fin 3) rfl _
theorem final_pi (c : Dev nD) : finalA σ m ρ c (1 : Fin 3) = m ((c : Thread nD τ).loc main_arg1) := (dats σ m ρ 0 c).arrAt_in (1 : Fin 3) rfl _

/-- The one block of either whole-array window is the array, entry for entry. -/
theorem out_emb (i : S1x512x512.Idx) : (win0_2.blk t0_0).view.emb i = i :=
  funext fun a => Fin.ext (win0_2.rect_emb_val_of_index_zero t0_0 a rfl i)

theorem x_emb (i : S1x512x512.Idx) : (win0_0.blk (0 : Fin 1)).view.emb i = i :=
  funext fun a => Fin.ext (win0_0.rect_emb_val_of_index_zero (0 : Fin 1) a rfl i)

/-- The result array ends at the block received. -/
theorem final_out (c : Dev nD) : finalA σ m ρ c (2 : Fin 3) = outAt σ m ρ c := by
  refine (dats σ m ρ 0 c).arrAt_eq_of_cover (2 : Fin 3) (outAt σ m ρ c) (fun t _ => ?_) fun i => ⟨t0_0, flush0_2 _, ?_⟩
  · rw [fin_N0 t]
    show (cfg0.win 2).cut (grid0.coords t0_0) (outAt σ m ρ c) = _
    funext i
    exact (congrArg (outAt σ m ρ c) (out_emb i)).symm
  · have h := (win0_2.blk t0_0).view.emb_mem_set i
    rwa [out_emb] at h

variable {σ m}

/-- From any memory whose tables spell `σ`: `@main` terminates on every device with the block of its source in the result, the
    arguments unchanged and every counter at zero. -/
theorem run_value (hσ : Spelled σ m) :
    θ_run defs (onTc (τ := τ) (main (F := F))) (s₀ m ρ) (fun r => (∀ c : Dev nD,
        r.2.mem ((c.tc : Thread nD τ).loc main_v1) = outAt σ m ρ c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun r h => ⟨fun c => ⟨(h.1 c (2 : Fin 3)).trans (final_out σ m ρ c), (h.1 c (0 : Fin 3)).trans (final_x σ m ρ c),
    (h.1 c (1 : Fin 3)).trans (final_pi σ m ρ c)⟩, h.2⟩) (run_main ρ hσ)

/-! ## The result's entries, floats exact -/

section Exact

variable (σ : Equiv.Perm (Fin 4)) (m : (ℓ : Loc nD τ sig) → Buf (Elt Ideal) ℓ) (ρ : Dev nD → PrngReg)

/-- With exact floats the two format changes drop out: the result of `c` is its source's block. -/
theorem out_exact (c : Dev nD) : outAt σ m ρ c = m ((src σ c : Thread nD τ).loc main_arg0) := by
  have hp : packed m ρ (src σ c) = shapeCast S512x512 (xstg m ρ (src σ c)) shapeCasts_S1x512x512_S512x512 := by
    show shapeCast S512x512 (shapeCast S512x512 (xstg m ρ (src σ c)) shapeCasts_S1x512x512_S512x512) shapeCasts_S512x512_S512x512 = _
    rw [shapeCast_self]
  have hx : xstg m ρ (src σ c) = m ((src σ c : Thread nD τ).loc main_arg0) := funext fun i => congrArg (m ((src σ c : Thread nD τ).loc main_arg0)) (x_emb i)
  have ho : outAt σ m ρ c = shapeCast S1x512x512 (packed m ρ (src σ c)) (by decide) := rfl
  rw [ho, hp, shapeCast_shapeCast, hx]

end Exact

end Cert.Permute

end
-- ==== Proof.Reference.lean ====
/-
# 01_k — the reference's result for a table that spells a permutation: row `z` is the argument's row `σ⁻¹ z`
-/
module

public import proofs.«01_k».proof.Proof.Gen.ReferenceIdeal.Run
public import Idealize.ShloMosaic.PureOps.Ideal

@[expose] public section

noncomputable section

namespace Cert.Permute.Ref

open Cert.ReferenceIdeal Cert.ReferenceIdeal.Gen
open Idealize.ShloMosaic

/-- The table spelling `σ`. -/
abbrev spell (σ : Equiv.Perm (Fin 4)) : IVec S4 32 := fun i => BitVec.ofNat 32 (σ (i 0)).val

/-- What the reference gathers by: the sort's positions, an entry below zero counted from the end. -/
def rows (t : IVec S4 32) : IVec S4 32 :=
  let order := (Host.sort2 S4 0 comparator_i32_i32_d0 t (iotaInDim S4 32 0)).2
  select (cmpi .slt order (broadcastInDim S4 ![] bcast_S_S4 (constantI S_ 32 0#32)))
    (addi order (broadcastInDim S4 ![] bcast_S_S4 (constantI S_ 32 4#32))) order

/-- The positions that sort a permutation are its inverse. -/
theorem rows_spell (σ : Equiv.Perm (Fin 4)) (i : S4.Idx) : rows (spell σ) i = BitVec.ofNat 32 (σ.symm (i 0)).val := by
  revert σ i; decide +kernel

/-- The index of row `b` at the coordinates of `y` within its row. -/
abbrev inRow (b : Fin 4) (y : S4x512x512.Idx) : S4x512x512.Idx := fun
  | ⟨0, _⟩ => b
  | ⟨1, _⟩ => y 1
  | ⟨2, _⟩ => y 2

/-- The dimension numbers of the reference's gather of whole rows. -/
abbrev gd := gather_S4x512x512_S4x1_S4x512x512_12_0_n_n_0_1_1512512

/-- A gather of whole rows, where the start index of `y`'s row names row `b`. -/
theorem gather_rows {α : Type} (x : S4x512x512.Idx → α) (t : IVec S4 32) (y : S4x512x512.Idx) (b : Fin 4)
    (hb : ∀ i : S4.Idx, (i 0).val = (y 0).val → t i = BitVec.ofNat 32 b.val) :
    Host.gather gd x (broadcastInDim S4x1 ![0] bcast_S4_S4x1_0 t) y = x (inRow b y) := by
  unfold Host.gather
  refine congrArg x (funext fun a => Fin.ext ?_)
  show GatherDims.start gd y (broadcastInDim S4x1 ![0] bcast_S4_S4x1_0 t) a + GatherDims.batchCoord gd y a + GatherDims.offCoord gd y a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)), Nat.add_zero]
    unfold GatherDims.start
    rw [dif_pos (show (⟨0, h0⟩ : Fin 3) ∈ GatherDims.startIndexMap gd from List.mem_singleton.mpr rfl)]
    have ht : ∀ j : S4x1.Idx, (j 0).val = (y 0).val → broadcastInDim S4x1 ![0] bcast_S4_S4x1_0 t j = BitVec.ofNat 32 b.val :=
      fun j hj => hb _ hj
    rw [ht _ rfl]
    exact (by decide : ∀ b : Fin 4, min (BitVec.ofNat 32 b.val).toInt.toNat (4 - 1) = b.val) b
  | ⟨1, h1⟩ =>
    unfold GatherDims.start GatherDims.offCoord
    rw [dif_neg (show (⟨1, h1⟩ : Fin 3) ∉ GatherDims.startIndexMap gd from (by decide : (1 : Fin 3) ∉ GatherDims.startIndexMap gd)),
      dif_pos (show (⟨1, h1⟩ : Fin 3) ∈ GatherDims.sKept gd from (by decide : (1 : Fin 3) ∈ GatherDims.sKept gd)), Nat.zero_add]
    rfl
  | ⟨2, h2⟩ =>
    unfold GatherDims.start GatherDims.offCoord
    rw [dif_neg (show (⟨2, h2⟩ : Fin 3) ∉ GatherDims.startIndexMap gd from (by decide : (2 : Fin 3) ∉ GatherDims.startIndexMap gd)),
      dif_pos (show (⟨2, h2⟩ : Fin 3) ∈ GatherDims.sKept gd from (by decide : (2 : Fin 3) ∈ GatherDims.sKept gd)), Nat.zero_add]
    rfl

/-- The reference's result. -/
def result {α : Type} (σ : Equiv.Perm (Fin 4)) (x : S4x512x512.Idx → α) : S4x512x512.Idx → α := fun y => x (inRow (σ.symm (y 0)) y)

theorem gather_result {α : Type} (σ : Equiv.Perm (Fin 4)) (x : S4x512x512.Idx → α) :
    Host.gather gd x (broadcastInDim S4x1 ![0] bcast_S4_S4x1_0 (rows (spell σ))) = result σ x :=
  funext fun y => gather_rows x _ y _ fun i hi => by
    rw [rows_spell]; exact congrArg (fun k => BitVec.ofNat 32 (σ.symm k).val) (Fin.ext hi)

open Idealize.ShloMosaic.TcCoe Idealize.SL.Sem in
/-- From a table that spells `σ`: the reference terminates with that result, its arguments unchanged. -/
theorem run_result (σ : Equiv.Perm (Fin 4)) (m : (ℓ : Loc nD τ sig) → Buf (Elt Ideal) ℓ) (ρ : Dev nD → PrngReg)
    (hσ : (m (((0 : Dev nD).tc : Thread nD τ).loc main_arg1) : IVec S4 32) = spell σ) :
    θ_run (defs (F := Ideal)) (onTc (τ := τ) (main (F := Ideal))) ⟨m, fun _ => 0, ρ⟩ (fun r =>
      r.2.mem (((0 : Dev nD).tc : Thread nD τ).loc main_v7) = result σ (m (((0 : Dev nD).tc : Thread nD τ).loc main_arg0))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)) :=
  (θ_run defs _ _).mono (fun r h => by
    refine ⟨(h 0).1.trans ?_, (h 0).2⟩
    rw [← gather_result, ← hσ]
    rfl) (Value.run (F := Ideal) m ρ)

end Cert.Permute.Ref

end
-- ==== Proof.Claims.lean ====
/-
# 01_k — the claims, for any table of constants that is a permutation of `0, 1, 2, 3`

Each precondition compares a device's table, word for word, with four constants. Everything is proved once, for whatever
four constants are a permutation.
-/
module

public import proofs.«01_k».proof.Proof.Value
public import proofs.«01_k».proof.Proof.Reference
public import proofs.«01_k».proof.Proof.Gen.Kernel
public import Idealize.ShloMosaic.Lib.Layout
public import Idealize.ShloMosaic.PureOps.BitExact

@[expose] public section

noncomputable section

namespace Cert.Permute

open Cert.KernelIdeal Cert.KernelIdeal.Gen
open Idealize.ShloMosaic
open Idealize.ShloMosaic.TcCoe
open Idealize.SL Idealize.SL.Sem

variable {F : FTy → Type} [FloatOps F]

/-! ## A table compared with constants -/

/-- The four constants are `0, 1, 2, 3` in some order. -/
abbrev Permutes (t : Fin 4 → BitVec 32) : Prop := (∀ k, (t k).toNat < 4) ∧ ∀ k l, t k = t l → k = l

/-- Every device's table agrees with the constants, word for word. -/
def Agrees (t : Fin 4 → BitVec 32) (m : (ℓ : Loc nD τ sig) → Buf (Elt F) ℓ) : Prop :=
  ∀ c : Dev nD, cmpi .eq (m ((c.tc : Thread nD τ).loc main_arg1) : IVec S4 32) (fun i => t (S4.rowMajor i)) = fun _ => 1#1

/-- Constants that are `0, 1, 2, 3` in some order spell a permutation. -/
theorem Permutes.spells {t : Fin 4 → BitVec 32} (h : Permutes t) : ∃ σ : Equiv.Perm (Fin 4), ∀ k, t k = wordOf (σ k) := by
  let f : Fin 4 → Fin 4 := fun k => ⟨(t k).toNat, h.1 k⟩
  have hf : Function.Injective f := fun k l e => h.2 k l (BitVec.eq_of_toNat_eq (show (f k).val = (f l).val from congrArg Fin.val e))
  refine ⟨Equiv.ofBijective f ⟨hf, Finite.injective_iff_surjective.mp hf⟩, fun k => ?_⟩
  show t k = BitVec.ofNat 32 (t k).toNat
  rw [BitVec.ofNat_toNat, BitVec.setWidth_eq]

theorem eq_of_compare {v w : BitVec 32} (h : BitVec.ofBool (v == w) = 1#1) : v = w := by
  by_contra hne
  rw [beq_false_of_ne hne] at h
  exact absurd h (by decide)

omit [FloatOps F] in
theorem Agrees.spelled {t : Fin 4 → BitVec 32} {m : (ℓ : Loc nD τ sig) → Buf (Elt F) ℓ} (hm : Agrees t m)
    {σ : Equiv.Perm (Fin 4)} (hσ : ∀ k, t k = wordOf (σ k)) : Spelled σ m := fun c i => by
  have he : (m ((c.tc : Thread nD τ).loc main_arg1) : S4.Idx → BitVec 32) i = t (S4.rowMajor i) := eq_of_compare (congrFun (hm c) i)
  have hr : S4.rowMajor i = i 0 := Fin.ext ((by decide : ∀ i : S4.Idx, (S4.rowMajor i).val = (i 0).val) i)
  exact he.trans ((hσ _).trans (congrArg (fun k => wordOf (σ k)) hr))

/-! ## The frames -/

theorem frame (t : Fin 4 → BitVec 32) (ht : Permutes t) (m : (ℓ : Loc nD τ sig) → Buf (Elt F) ℓ) (ρ : Dev nD → PrngReg) (hm : Agrees t m) :
    θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  obtain ⟨σ, hσ⟩ := ht.spells
  exact (θ_run defs _ _).mono (fun _ h => ⟨fun c => (h.1 c).2, h.2⟩) (run_value ρ (hm.spelled hσ))

/-- The kernel before idealization is the same program text: label by label the same body, so the same body table. -/
theorem bodies_eq : Cert.Kernel.defs₀ (F := Bits) = Cert.KernelIdeal.defs₀ (F := Bits) := by
  refine congrArg Defs.onTc (funext fun l => funext fun a => ?_)
  match l, a with
  | 0, (t, s) => rfl

theorem defs_eq : Cert.Kernel.defs (F := Bits) = Cert.KernelIdeal.defs (F := Bits) :=
  congrArg (Pipeline.defs Cert.KernelIdeal.pcfgs) bodies_eq

theorem frame_kernel (t : Fin 4 → BitVec 32) (ht : Permutes t)
    (m : (ℓ : Loc Cert.Kernel.nD Cert.Kernel.τ Cert.Kernel.sig) → Buf (Elt Bits) ℓ) (ρ : Dev Cert.Kernel.nD → PrngReg) (hm : Agrees (F := Bits) t m) :
    θ_run (Cert.Kernel.defs (F := Bits)) (onTc (τ := Cert.Kernel.τ) (Cert.Kernel.main (F := Bits))) ⟨m, fun _ => 0, ρ⟩ (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  defs_eq ▸ frame (F := Bits) t ht m ρ hm

/-- The reference runs from any memory; it declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-! ## The value -/

/-- Device `c`'s part of a whole array of `z` rows: the block at its own coordinate. -/
abbrev part (c : Dev nD) (X : Cert.ReferenceIdeal.S4x512x512.Idx → Elt Ideal .f32) : S1x512x512.Idx → Elt Ideal .f32 :=
  Layout.blockN ⟨3, ![1, 512, 512]⟩ ⟨3, ![4, 512, 512]⟩ (Layout.meshBlock [2, 2, 4] ![[2], [], []] c) X

/-- The source's part of the argument is the device's own part of the reference's result. -/
theorem part_src (σ : Equiv.Perm (Fin 4)) (c : Dev nD) (X : Cert.ReferenceIdeal.S4x512x512.Idx → Elt Ideal .f32) :
    part (src σ c) X = part c (Ref.result σ X) := by
  have hT : Layout.TilesN ⟨3, ![1, 512, 512]⟩ ⟨3, ![4, 512, 512]⟩ fun b => Layout.cutSize [2, 2, 4] ((![[2], [], []] : Fin 3 → List Nat) b) := by decide
  have row (d : Dev nD) (i : S1x512x512.Idx) : (hT.idx (Layout.meshBlock [2, 2, 4] ![[2], [], []] d) i (0 : Fin 3)).val = (zOf d).val := by
    have h : (i 0).val < 1 := (i 0).isLt
    show (d.val / 1 % 4 * 1 + 0) * 1 + (i 0).val = d.val % 4
    omega
  have hz : zOf (src σ c) = σ.symm (zOf c) := zOf_onLine _ _
  funext i
  refine congrArg X (funext fun a => Fin.ext ?_)
  match a with
  | ⟨0, _⟩ =>
    refine (row (src σ c) i).trans (congrArg Fin.val (hz.trans (congrArg σ.symm ?_)))
    exact Fin.ext (row c i).symm
  | ⟨1, _⟩ => rfl
  | ⟨2, _⟩ => rfl

set_option maxHeartbeats 1000000 in
theorem algebraic (t : Fin 4 → BitVec 32) (ht : Permutes t)
    (m : (ℓ : Loc nD τ sig) → Buf (Elt Ideal) ℓ) (g : Dev nD → PrngReg)
    (m' : (ℓ : Loc Cert.ReferenceIdeal.nD Cert.ReferenceIdeal.τ Cert.ReferenceIdeal.sig) → Buf (Elt Ideal) ℓ) (g' : Dev Cert.ReferenceIdeal.nD → PrngReg)
    (hm : Agrees t m)
    (hin : ∀ c : Dev nD,
      m ((c.tc : Thread nD τ).loc main_arg0) = Layout.blockN ⟨3, ![1, 512, 512]⟩ ⟨3, ![4, 512, 512]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread nD τ).loc main_arg1) = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v7)),
      θ_run (defs (F := Ideal)) (onTc (τ := τ) (main (F := Ideal))) ⟨m, fun _ => 0, g⟩ (fun r => ∀ c : Dev nD,
          r.2.mem ((c.tc : Thread nD τ).loc main_v1) = Layout.blockN ⟨3, ![1, 512, 512]⟩ ⟨3, ![4, 512, 512]⟩ (Layout.meshBlock [2, 2, 4] ![[2], [], []] c) v0
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  obtain ⟨σ, hσ⟩ := ht.spells
  have hs := hm.spelled hσ
  refine ⟨Ref.result σ (m' (((0 : Dev Cert.ReferenceIdeal.nD).tc : Thread Cert.ReferenceIdeal.nD Cert.ReferenceIdeal.τ).loc Cert.ReferenceIdeal.main_arg0)), ?_,
    Ref.run_result σ m' g' ((hin 0).2.symm.trans (funext (hs 0)))⟩
  refine (θ_run defs _ _).mono (fun _ h c => ⟨(h.1 c).1.trans ?_, (h.1 c).2⟩) (run_value g hs)
  exact (out_exact σ m g c).trans ((hin (src σ c)).1.trans (part_src σ c _))

end Cert.Permute

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pi_is_0123_Kernel
public import proofs.«01_k».proof.Proof.Gen.Pre_pi_is_0132_Kernel
public import proofs.«01_k».proof.Proof.Gen.Pre_pi_is_0213_Kernel
public import proofs.«01_k».proof.Proof.Gen.Pre_pi_is_0231_Kernel
public import proofs.«01_k».proof.Proof.Gen.Pre_pi_is_0312_Kernel
public import proofs.«01_k».proof.Proof.Gen.Pre_pi_is_0321_Kernel
public import proofs.«01_k».proof.Proof.Gen.Pre_pi_is_1023_Kernel
public import proofs.«01_k».proof.Proof.Gen.Pre_pi_is_1032_Kernel
public import proofs.«01_k».proof.Proof.Gen.Pre_pi_is_1203_Kernel
public import proofs.«01_k».proof.Proof.Gen.Pre_pi_is_1230_Kernel
public import proofs.«01_k».proof.Proof.Gen.Pre_pi_is_1302_Kernel
public import proofs.«01_k».proof.Proof.Gen.Pre_pi_is_1320_Kernel
public import proofs.«01_k».proof.Proof.Gen.Pre_pi_is_2013_Kernel
public import proofs.«01_k».proof.Proof.Gen.Pre_pi_is_2031_Kernel
public import proofs.«01_k».proof.Proof.Gen.Pre_pi_is_2103_Kernel
public import proofs.«01_k».proof.Proof.Gen.Pre_pi_is_2130_Kernel
public import proofs.«01_k».proof.Proof.Gen.Pre_pi_is_2301_Kernel
public import proofs.«01_k».proof.Proof.Gen.Pre_pi_is_2310_Kernel
public import proofs.«01_k».proof.Proof.Gen.Pre_pi_is_3012_Kernel
public import proofs.«01_k».proof.Proof.Gen.Pre_pi_is_3021_Kernel
public import proofs.«01_k».proof.Proof.Gen.Pre_pi_is_3102_Kernel
public import proofs.«01_k».proof.Proof.Gen.Pre_pi_is_3120_Kernel
public import proofs.«01_k».proof.Proof.Gen.Pre_pi_is_3201_Kernel
public import proofs.«01_k».proof.Proof.Gen.Pre_pi_is_3210_Kernel
public import proofs.«01_k».proof.Proof.Gen.Pre_pi_is_0123_ReferenceIdeal
public import proofs.«01_k».proof.Proof.Gen.Pre_pi_is_0132_ReferenceIdeal
public import proofs.«01_k».proof.Proof.Gen.Pre_pi_is_0213_ReferenceIdeal
public import proofs.«01_k».proof.Proof.Gen.Pre_pi_is_0231_ReferenceIdeal
public import proofs.«01_k».proof.Proof.Gen.Pre_pi_is_0312_ReferenceIdeal
public import proofs.«01_k».proof.Proof.Gen.Pre_pi_is_0321_ReferenceIdeal
public import proofs.«01_k».proof.Proof.Gen.Pre_pi_is_1023_ReferenceIdeal
public import proofs.«01_k».proof.Proof.Gen.Pre_pi_is_1032_ReferenceIdeal
public import proofs.«01_k».proof.Proof.Gen.Pre_pi_is_1203_ReferenceIdeal
public import proofs.«01_k».proof.Proof.Gen.Pre_pi_is_1230_ReferenceIdeal
public import proofs.«01_k».proof.Proof.Gen.Pre_pi_is_1302_ReferenceIdeal
public import proofs.«01_k».proof.Proof.Gen.Pre_pi_is_1320_ReferenceIdeal
public import proofs.«01_k».proof.Proof.Gen.Pre_pi_is_2013_ReferenceIdeal
public import proofs.«01_k».proof.Proof.Gen.Pre_pi_is_2031_ReferenceIdeal
public import proofs.«01_k».proof.Proof.Gen.Pre_pi_is_2103_ReferenceIdeal
public import proofs.«01_k».proof.Proof.Gen.Pre_pi_is_2130_ReferenceIdeal
public import proofs.«01_k».proof.Proof.Gen.Pre_pi_is_2301_ReferenceIdeal
public import proofs.«01_k».proof.Proof.Gen.Pre_pi_is_2310_ReferenceIdeal
public import proofs.«01_k».proof.Proof.Gen.Pre_pi_is_3012_ReferenceIdeal
public import proofs.«01_k».proof.Proof.Gen.Pre_pi_is_3021_ReferenceIdeal
public import proofs.«01_k».proof.Proof.Gen.Pre_pi_is_3102_ReferenceIdeal
public import proofs.«01_k».proof.Proof.Gen.Pre_pi_is_3120_ReferenceIdeal
public import proofs.«01_k».proof.Proof.Gen.Pre_pi_is_3201_ReferenceIdeal
public import proofs.«01_k».proof.Proof.Gen.Pre_pi_is_3210_ReferenceIdeal
public import Idealize.ShloMosaic.Adequacy
public import Idealize.ShloMosaic.Init
public import proofs.«01_k».proof.Proof.Gen.ReferenceIdeal.Run
public import proofs.«01_k».proof.Proof.Claims

@[expose] public section

noncomputable section

namespace Cert.Proof

open Cert.Permute

theorem claim : Cert.Claim := ⟨Cert.Kernel.Gen.facts, Cert.KernelIdeal.Gen.facts, Cert.ReferenceIdeal.Gen.facts, Cert.Pre_pi_is_0123_Kernel.Gen.facts, Cert.Pre_pi_is_0132_Kernel.Gen.facts, Cert.Pre_pi_is_0213_Kernel.Gen.facts, Cert.Pre_pi_is_0231_Kernel.Gen.facts, Cert.Pre_pi_is_0312_Kernel.Gen.facts, Cert.Pre_pi_is_0321_Kernel.Gen.facts, Cert.Pre_pi_is_1023_Kernel.Gen.facts, Cert.Pre_pi_is_1032_Kernel.Gen.facts, Cert.Pre_pi_is_1203_Kernel.Gen.facts, Cert.Pre_pi_is_1230_Kernel.Gen.facts, Cert.Pre_pi_is_1302_Kernel.Gen.facts, Cert.Pre_pi_is_1320_Kernel.Gen.facts, Cert.Pre_pi_is_2013_Kernel.Gen.facts, Cert.Pre_pi_is_2031_Kernel.Gen.facts, Cert.Pre_pi_is_2103_Kernel.Gen.facts, Cert.Pre_pi_is_2130_Kernel.Gen.facts, Cert.Pre_pi_is_2301_Kernel.Gen.facts, Cert.Pre_pi_is_2310_Kernel.Gen.facts, Cert.Pre_pi_is_3012_Kernel.Gen.facts, Cert.Pre_pi_is_3021_Kernel.Gen.facts, Cert.Pre_pi_is_3102_Kernel.Gen.facts, Cert.Pre_pi_is_3120_Kernel.Gen.facts, Cert.Pre_pi_is_3201_Kernel.Gen.facts, Cert.Pre_pi_is_3210_Kernel.Gen.facts, Cert.Pre_pi_is_0123_ReferenceIdeal.Gen.facts, Cert.Pre_pi_is_0132_ReferenceIdeal.Gen.facts, Cert.Pre_pi_is_0213_ReferenceIdeal.Gen.facts, Cert.Pre_pi_is_0231_ReferenceIdeal.Gen.facts, Cert.Pre_pi_is_0312_ReferenceIdeal.Gen.facts, Cert.Pre_pi_is_0321_ReferenceIdeal.Gen.facts, Cert.Pre_pi_is_1023_ReferenceIdeal.Gen.facts, Cert.Pre_pi_is_1032_ReferenceIdeal.Gen.facts, Cert.Pre_pi_is_1203_ReferenceIdeal.Gen.facts, Cert.Pre_pi_is_1230_ReferenceIdeal.Gen.facts, Cert.Pre_pi_is_1302_ReferenceIdeal.Gen.facts, Cert.Pre_pi_is_1320_ReferenceIdeal.Gen.facts, Cert.Pre_pi_is_2013_ReferenceIdeal.Gen.facts, Cert.Pre_pi_is_2031_ReferenceIdeal.Gen.facts, Cert.Pre_pi_is_2103_ReferenceIdeal.Gen.facts, Cert.Pre_pi_is_2130_ReferenceIdeal.Gen.facts, Cert.Pre_pi_is_2301_ReferenceIdeal.Gen.facts, Cert.Pre_pi_is_2310_ReferenceIdeal.Gen.facts, Cert.Pre_pi_is_3012_ReferenceIdeal.Gen.facts, Cert.Pre_pi_is_3021_ReferenceIdeal.Gen.facts, Cert.Pre_pi_is_3102_ReferenceIdeal.Gen.facts, Cert.Pre_pi_is_3120_ReferenceIdeal.Gen.facts, Cert.Pre_pi_is_3201_ReferenceIdeal.Gen.facts, Cert.Pre_pi_is_3210_ReferenceIdeal.Gen.facts,
  frame_kernel Cert.Pre_pi_is_0123_Kernel.lit0 (by decide),
  frame_kernel Cert.Pre_pi_is_0132_Kernel.lit0 (by decide),
  frame_kernel Cert.Pre_pi_is_0213_Kernel.lit0 (by decide),
  frame_kernel Cert.Pre_pi_is_0231_Kernel.lit0 (by decide),
  frame_kernel Cert.Pre_pi_is_0312_Kernel.lit0 (by decide),
  frame_kernel Cert.Pre_pi_is_0321_Kernel.lit0 (by decide),
  frame_kernel Cert.Pre_pi_is_1023_Kernel.lit0 (by decide),
  frame_kernel Cert.Pre_pi_is_1032_Kernel.lit0 (by decide),
  frame_kernel Cert.Pre_pi_is_1203_Kernel.lit0 (by decide),
  frame_kernel Cert.Pre_pi_is_1230_Kernel.lit0 (by decide),
  frame_kernel Cert.Pre_pi_is_1302_Kernel.lit0 (by decide),
  frame_kernel Cert.Pre_pi_is_1320_Kernel.lit0 (by decide),
  frame_kernel Cert.Pre_pi_is_2013_Kernel.lit0 (by decide),
  frame_kernel Cert.Pre_pi_is_2031_Kernel.lit0 (by decide),
  frame_kernel Cert.Pre_pi_is_2103_Kernel.lit0 (by decide),
  frame_kernel Cert.Pre_pi_is_2130_Kernel.lit0 (by decide),
  frame_kernel Cert.Pre_pi_is_2301_Kernel.lit0 (by decide),
  frame_kernel Cert.Pre_pi_is_2310_Kernel.lit0 (by decide),
  frame_kernel Cert.Pre_pi_is_3012_Kernel.lit0 (by decide),
  frame_kernel Cert.Pre_pi_is_3021_Kernel.lit0 (by decide),
  frame_kernel Cert.Pre_pi_is_3102_Kernel.lit0 (by decide),
  frame_kernel Cert.Pre_pi_is_3120_Kernel.lit0 (by decide),
  frame_kernel Cert.Pre_pi_is_3201_Kernel.lit0 (by decide),
  frame_kernel Cert.Pre_pi_is_3210_Kernel.lit0 (by decide),
  frame Cert.Pre_pi_is_0123_Kernel.lit0 (by decide),
  frame Cert.Pre_pi_is_0132_Kernel.lit0 (by decide),
  frame Cert.Pre_pi_is_0213_Kernel.lit0 (by decide),
  frame Cert.Pre_pi_is_0231_Kernel.lit0 (by decide),
  frame Cert.Pre_pi_is_0312_Kernel.lit0 (by decide),
  frame Cert.Pre_pi_is_0321_Kernel.lit0 (by decide),
  frame Cert.Pre_pi_is_1023_Kernel.lit0 (by decide),
  frame Cert.Pre_pi_is_1032_Kernel.lit0 (by decide),
  frame Cert.Pre_pi_is_1203_Kernel.lit0 (by decide),
  frame Cert.Pre_pi_is_1230_Kernel.lit0 (by decide),
  frame Cert.Pre_pi_is_1302_Kernel.lit0 (by decide),
  frame Cert.Pre_pi_is_1320_Kernel.lit0 (by decide),
  frame Cert.Pre_pi_is_2013_Kernel.lit0 (by decide),
  frame Cert.Pre_pi_is_2031_Kernel.lit0 (by decide),
  frame Cert.Pre_pi_is_2103_Kernel.lit0 (by decide),
  frame Cert.Pre_pi_is_2130_Kernel.lit0 (by decide),
  frame Cert.Pre_pi_is_2301_Kernel.lit0 (by decide),
  frame Cert.Pre_pi_is_2310_Kernel.lit0 (by decide),
  frame Cert.Pre_pi_is_3012_Kernel.lit0 (by decide),
  frame Cert.Pre_pi_is_3021_Kernel.lit0 (by decide),
  frame Cert.Pre_pi_is_3102_Kernel.lit0 (by decide),
  frame Cert.Pre_pi_is_3120_Kernel.lit0 (by decide),
  frame Cert.Pre_pi_is_3201_Kernel.lit0 (by decide),
  frame Cert.Pre_pi_is_3210_Kernel.lit0 (by decide),
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  fun m ρ _ => frame_reference m ρ,
  trivial,
  algebraic Cert.Pre_pi_is_0123_Kernel.lit0 (by decide),
  algebraic Cert.Pre_pi_is_0132_Kernel.lit0 (by decide),
  algebraic Cert.Pre_pi_is_0213_Kernel.lit0 (by decide),
  algebraic Cert.Pre_pi_is_0231_Kernel.lit0 (by decide),
  algebraic Cert.Pre_pi_is_0312_Kernel.lit0 (by decide),
  algebraic Cert.Pre_pi_is_0321_Kernel.lit0 (by decide),
  algebraic Cert.Pre_pi_is_1023_Kernel.lit0 (by decide),
  algebraic Cert.Pre_pi_is_1032_Kernel.lit0 (by decide),
  algebraic Cert.Pre_pi_is_1203_Kernel.lit0 (by decide),
  algebraic Cert.Pre_pi_is_1230_Kernel.lit0 (by decide),
  algebraic Cert.Pre_pi_is_1302_Kernel.lit0 (by decide),
  algebraic Cert.Pre_pi_is_1320_Kernel.lit0 (by decide),
  algebraic Cert.Pre_pi_is_2013_Kernel.lit0 (by decide),
  algebraic Cert.Pre_pi_is_2031_Kernel.lit0 (by decide),
  algebraic Cert.Pre_pi_is_2103_Kernel.lit0 (by decide),
  algebraic Cert.Pre_pi_is_2130_Kernel.lit0 (by decide),
  algebraic Cert.Pre_pi_is_2301_Kernel.lit0 (by decide),
  algebraic Cert.Pre_pi_is_2310_Kernel.lit0 (by decide),
  algebraic Cert.Pre_pi_is_3012_Kernel.lit0 (by decide),
  algebraic Cert.Pre_pi_is_3021_Kernel.lit0 (by decide),
  algebraic Cert.Pre_pi_is_3102_Kernel.lit0 (by decide),
  algebraic Cert.Pre_pi_is_3120_Kernel.lit0 (by decide),
  algebraic Cert.Pre_pi_is_3201_Kernel.lit0 (by decide),
  algebraic Cert.Pre_pi_is_3210_Kernel.lit0 (by decide)⟩

end Cert.Proof

end
